-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 1, 4096, 2048]⟩ ⟨4, ![2, 2, 4096, 2048]⟩ (Layout.meshBlock [2, 2] ![[0], [1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x4096x2048 : Shape := ⟨4, ![1, 1, 4096, 2048]⟩
abbrev S4096x2048 : Shape := ⟨2, ![4096, 2048]⟩
abbrev S2x512x2048 : Shape := ⟨3, ![2, 512, 2048]⟩
abbrev S512x2048 : Shape := ⟨2, ![512, 2048]⟩
abbrev S6 : Shape := ⟨1, ![6]⟩
abbrev S_ : Shape := ⟨0, ![]⟩
abbrev S1x1x512x2048 : Shape := ⟨4, ![1, 1, 512, 2048]⟩
abbrev S1 : Shape := ⟨1, ![1]⟩
abbrev S1x512x2048 : Shape := ⟨3, ![1, 512, 2048]⟩

abbrev nBuf : Space → Nat
  | .hbm => 2
  | .vmem => 8
  | .smem => 0
  | _ => 0

abbrev bufTy : (tb : Table) → Fin (tcTables nBuf tb) → BufTy
  | .hbm, ⟨0, _⟩ => ⟨S1x1x4096x2048, .f32⟩
  | .hbm, ⟨1, _⟩ => ⟨S4096x2048, .f32⟩
  | .local _ .vmem, ⟨0, _⟩ => ⟨S2x512x2048, .f32⟩
  | .local _ .vmem, ⟨1, _⟩ => ⟨S2x512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S1x1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 4
abbrev τ : Topo := Topo.v7x

variable {F : FTy → Type} [FloatOps F]

abbrev grid0 : Pipeline.Grid := .none

def k0_off1 (d0 : Dev nD) : Fin 4 → Nat :=
  let c0_i32 : BitVec 32 := 0#32
  let c0_i32_21 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let c1_i32_10 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_10 v5
  let c512_i32_11 : BitVec 32 := 512#32
  let v19 : BitVec 32 := Scalar.muli v18 c512_i32_11
  let v20 : BitVec 32 := Scalar.addi v8 v19
  let c0_i32_22 : BitVec 32 := 0#32
  ![0, 0, v20.toNat, 0]
def k0_off2 (d0 : Dev nD) : Fin 4 → Nat :=
  let c0_i32_23 : BitVec 32 := 0#32
  let c0_i32_24 : BitVec 32 := 0#32
  let c2048_i32 : BitVec 32 := 2048#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_6 : BitVec 32 := 1024#32
  let v11 : BitVec 32 := Scalar.muli v5 c1024_i32_6
  let v12 : BitVec 32 := Scalar.addi c2048_i32 v11
  let c1_i32_13 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v23 : BitVec 32 := Scalar.subi c1_i32_13 v2
  let c512_i32_14 : BitVec 32 := 512#32
  let v24 : BitVec 32 := Scalar.muli v23 c512_i32_14
  let v25 : BitVec 32 := Scalar.addi v12 v24
  let c0_i32_25 : BitVec 32 := 0#32
  ![0, 0, v25.toNat, 0]
def k0_off3 (d0 : Dev nD) : Fin 4 → Nat :=
  let c0_i32_26 : BitVec 32 := 0#32
  let c0_i32_27 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v16 : BitVec 32 := Scalar.muli v5 c512_i32
  let v17 : BitVec 32 := Scalar.addi v8 v16
  let c0_i32_28 : BitVec 32 := 0#32
  ![0, 0, v17.toNat, 0]
def k0_off4 (d0 : Dev nD) : Fin 4 → Nat :=
  let c0_i32_29 : BitVec 32 := 0#32
  let c0_i32_30 : BitVec 32 := 0#32
  let c2048_i32 : BitVec 32 := 2048#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_6 : BitVec 32 := 1024#32
  let v11 : BitVec 32 := Scalar.muli v5 c1024_i32_6
  let v12 : BitVec 32 := Scalar.addi c2048_i32 v11
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_12 : BitVec 32 := 512#32
  let v21 : BitVec 32 := Scalar.muli v2 c512_i32_12
  let v22 : BitVec 32 := Scalar.addi v12 v21
  let c0_i32_31 : BitVec 32 := 0#32
  ![0, 0, v22.toNat, 0]
def k0_dev1 (d0 : Dev nD) : Nat :=
  let c0_i32_34 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_33 : BitVec 32 := 2#32
  let v45 : BitVec 32 := Scalar.muli v6 c2_i32_33
  let v46 : BitVec 32 := Scalar.addi c0_i32_34 v45
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_35 : BitVec 32 := 1#32
  let v47 : BitVec 32 := Scalar.muli v5 c1_i32_35
  let v48 : BitVec 32 := Scalar.addi v46 v47
  v48.toNat
def k0_dev2 (d0 : Dev nD) : Nat :=
  let c0_i32_38 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_37 : BitVec 32 := 2#32
  let v49 : BitVec 32 := Scalar.muli v2 c2_i32_37
  let v50 : BitVec 32 := Scalar.addi c0_i32_38 v49
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_39 : BitVec 32 := 1#32
  let v51 : BitVec 32 := Scalar.muli v7 c1_i32_39
  let v52 : BitVec 32 := Scalar.addi v50 v51
  v52.toNat
def k0_off5 (d0 : Dev nD) : Fin 4 → Nat :=
  let c0_i32_41 : BitVec 32 := 0#32
  let c0_i32_42 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c1024_i32_5 : BitVec 32 := 1024#32
  let v10 : BitVec 32 := Scalar.muli v9 c1024_i32_5
  let c1_i32_15 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v26 : BitVec 32 := Scalar.subi c1_i32_15 v5
  let c512_i32_16 : BitVec 32 := 512#32
  let v27 : BitVec 32 := Scalar.muli v26 c512_i32_16
  let v28 : BitVec 32 := Scalar.addi v10 v27
  let c0_i32_51 : BitVec 32 := 0#32
  ![0, 0, v28.toNat, 0]
def k0_dev3 (d0 : Dev nD) : Nat :=
  let c0_i32_47 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_46 : BitVec 32 := 2#32
  let v53 : BitVec 32 := Scalar.muli v6 c2_i32_46
  let v54 : BitVec 32 := Scalar.addi c0_i32_47 v53
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_48 : BitVec 32 := 1#32
  let v55 : BitVec 32 := Scalar.muli v5 c1_i32_48
  let v56 : BitVec 32 := Scalar.addi v54 v55
  v56.toNat
def k0_off6 (d0 : Dev nD) : Fin 4 → Nat :=
  let c0_i32_52 : BitVec 32 := 0#32
  let c0_i32_53 : BitVec 32 := 0#32
  let c2048_i32_9 : BitVec 32 := 2048#32
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c1024_i32_8 : BitVec 32 := 1024#32
  let v14 : BitVec 32 := Scalar.muli v13 c1024_i32_8
  let v15 : BitVec 32 := Scalar.addi c2048_i32_9 v14
  let c1_i32_18 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v31 : BitVec 32 := Scalar.subi c1_i32_18 v2
  let c512_i32_19 : BitVec 32 := 512#32
  let v32 : BitVec 32 := Scalar.muli v31 c512_i32_19
  let v33 : BitVec 32 := Scalar.addi v15 v32
  let c0_i32_62 : BitVec 32 := 0#32
  ![0, 0, v33.toNat, 0]
def k0_dev4 (d0 : Dev nD) : Nat :=
  let c0_i32_58 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_57 : BitVec 32 := 2#32
  let v65 : BitVec 32 := Scalar.muli v2 c2_i32_57
  let v66 : BitVec 32 := Scalar.addi c0_i32_58 v65
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_59 : BitVec 32 := 1#32
  let v67 : BitVec 32 := Scalar.muli v7 c1_i32_59
  let v68 : BitVec 32 := Scalar.addi v66 v67
  v68.toNat
def k0_off7 (d0 : Dev nD) : Fin 4 → Nat :=
  let c0_i32_63 : BitVec 32 := 0#32
  let c0_i32_64 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c1024_i32_5 : BitVec 32 := 1024#32
  let v10 : BitVec 32 := Scalar.muli v9 c1024_i32_5
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_17 : BitVec 32 := 512#32
  let v29 : BitVec 32 := Scalar.muli v5 c512_i32_17
  let v30 : BitVec 32 := Scalar.addi v10 v29
  let c0_i32_73 : BitVec 32 := 0#32
  ![0, 0, v30.toNat, 0]
def k0_dev5 (d0 : Dev nD) : Nat :=
  let c0_i32_69 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_68 : BitVec 32 := 2#32
  let v77 : BitVec 32 := Scalar.muli v6 c2_i32_68
  let v78 : BitVec 32 := Scalar.addi c0_i32_69 v77
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_70 : BitVec 32 := 1#32
  let v79 : BitVec 32 := Scalar.muli v5 c1_i32_70
  let v80 : BitVec 32 := Scalar.addi v78 v79
  v80.toNat
def k0_off8 (d0 : Dev nD) : Fin 4 → Nat :=
  let c0_i32_74 : BitVec 32 := 0#32
  let c0_i32_75 : BitVec 32 := 0#32
  let c2048_i32_9 : BitVec 32 := 2048#32
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c1024_i32_8 : BitVec 32 := 1024#32
  let v14 : BitVec 32 := Scalar.muli v13 c1024_i32_8
  let v15 : BitVec 32 := Scalar.addi c2048_i32_9 v14
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_20 : BitVec 32 := 512#32
  let v34 : BitVec 32 := Scalar.muli v2 c512_i32_20
  let v35 : BitVec 32 := Scalar.addi v15 v34
  let c0_i32_84 : BitVec 32 := 0#32
  ![0, 0, v35.toNat, 0]
def k0_dev6 (d0 : Dev nD) : Nat :=
  let c0_i32_80 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_79 : BitVec 32 := 2#32
  let v89 : BitVec 32 := Scalar.muli v2 c2_i32_79
  let v90 : BitVec 32 := Scalar.addi c0_i32_80 v89
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_81 : BitVec 32 := 1#32
  let v91 : BitVec 32 := Scalar.muli v7 c1_i32_81
  let v92 : BitVec 32 := Scalar.addi v90 v91
  v92.toNat
def k0_dev7 (d0 : Dev nD) : Nat :=
  let c0_i32_119 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_118 : BitVec 32 := 2#32
  let v126 : BitVec 32 := Scalar.muli v2 c2_i32_118
  let v127 : BitVec 32 := Scalar.addi c0_i32_119 v126
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_120 : BitVec 32 := 1#32
  let v128 : BitVec 32 := Scalar.muli v7 c1_i32_120
  let v129 : BitVec 32 := Scalar.addi v127 v128
  v129.toNat
def k0_dev8 (d0 : Dev nD) : Nat :=
  let c0_i32_158 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_157 : BitVec 32 := 2#32
  let v161 : BitVec 32 := Scalar.muli v6 c2_i32_157
  let v162 : BitVec 32 := Scalar.addi c0_i32_158 v161
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_159 : BitVec 32 := 1#32
  let v163 : BitVec 32 := Scalar.muli v5 c1_i32_159
  let v164 : BitVec 32 := Scalar.addi v162 v163
  v164.toNat
def k0_off9 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v16 : BitVec 32 := Scalar.muli v5 c512_i32
  let v17 : BitVec 32 := Scalar.addi v8 v16
  let c0_i32_250 : BitVec 32 := 0#32
  ![v17.toNat, 0]
def k0_dev9 (d0 : Dev nD) : Nat :=
  let c0_i32_248 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_247 : BitVec 32 := 2#32
  let v240 : BitVec 32 := Scalar.muli v2 c2_i32_247
  let v241 : BitVec 32 := Scalar.addi c0_i32_248 v240
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_249 : BitVec 32 := 1#32
  let v242 : BitVec 32 := Scalar.muli v7 c1_i32_249
  let v243 : BitVec 32 := Scalar.addi v241 v242
  v243.toNat
def k0_dev10 (d0 : Dev nD) : Nat :=
  let c0_i32_256 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_255 : BitVec 32 := 2#32
  let v251 : BitVec 32 := Scalar.muli v6 c2_i32_255
  let v252 : BitVec 32 := Scalar.addi c0_i32_256 v251
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_257 : BitVec 32 := 1#32
  let v253 : BitVec 32 := Scalar.muli v5 c1_i32_257
  let v254 : BitVec 32 := Scalar.addi v252 v253
  v254.toNat
def k0_off10 (d0 : Dev nD) : Fin 2 → Nat :=
  let c2048_i32 : BitVec 32 := 2048#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_6 : BitVec 32 := 1024#32
  let v11 : BitVec 32 := Scalar.muli v5 c1024_i32_6
  let v12 : BitVec 32 := Scalar.addi c2048_i32 v11
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_12 : BitVec 32 := 512#32
  let v21 : BitVec 32 := Scalar.muli v2 c512_i32_12
  let v22 : BitVec 32 := Scalar.addi v12 v21
  let c0_i32_293 : BitVec 32 := 0#32
  ![v22.toNat, 0]
def k0_dev11 (d0 : Dev nD) : Nat :=
  let c0_i32_291 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_290 : BitVec 32 := 2#32
  let v284 : BitVec 32 := Scalar.muli v6 c2_i32_290
  let v285 : BitVec 32 := Scalar.addi c0_i32_291 v284
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_292 : BitVec 32 := 1#32
  let v286 : BitVec 32 := Scalar.muli v5 c1_i32_292
  let v287 : BitVec 32 := Scalar.addi v285 v286
  v287.toNat
def k0_dev12 (d0 : Dev nD) : Nat :=
  let c0_i32_300 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_299 : BitVec 32 := 2#32
  let v295 : BitVec 32 := Scalar.muli v2 c2_i32_299
  let v296 : BitVec 32 := Scalar.addi c0_i32_300 v295
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_301 : BitVec 32 := 1#32
  let v297 : BitVec 32 := Scalar.muli v7 c1_i32_301
  let v298 : BitVec 32 := Scalar.addi v296 v297
  v298.toNat
def k0_off11 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let c1_i32_10 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_10 v5
  let c512_i32_11 : BitVec 32 := 512#32
  let v19 : BitVec 32 := Scalar.muli v18 c512_i32_11
  let v20 : BitVec 32 := Scalar.addi v8 v19
  let c0_i32_329 : BitVec 32 := 0#32
  ![v20.toNat, 0]
def k0_dev13 (d0 : Dev nD) : Nat :=
  let c0_i32_327 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_326 : BitVec 32 := 2#32
  let v323 : BitVec 32 := Scalar.muli v6 c2_i32_326
  let v324 : BitVec 32 := Scalar.addi c0_i32_327 v323
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_328 : BitVec 32 := 1#32
  let v325 : BitVec 32 := Scalar.muli v5 c1_i32_328
  let v326 : BitVec 32 := Scalar.addi v324 v325
  v326.toNat
def k0_off12 (d0 : Dev nD) : Fin 2 → Nat :=
  let c2048_i32 : BitVec 32 := 2048#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_6 : BitVec 32 := 1024#32
  let v11 : BitVec 32 := Scalar.muli v5 c1024_i32_6
  let v12 : BitVec 32 := Scalar.addi c2048_i32 v11
  let c1_i32_13 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v23 : BitVec 32 := Scalar.subi c1_i32_13 v2
  let c512_i32_14 : BitVec 32 := 512#32
  let v24 : BitVec 32 := Scalar.muli v23 c512_i32_14
  let v25 : BitVec 32 := Scalar.addi v12 v24
  let c0_i32_352 : BitVec 32 := 0#32
  ![v25.toNat, 0]
def k0_dev14 (d0 : Dev nD) : Nat :=
  let c0_i32_350 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_349 : BitVec 32 := 2#32
  let v347 : BitVec 32 := Scalar.muli v2 c2_i32_349
  let v348 : BitVec 32 := Scalar.addi c0_i32_350 v347
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_351 : BitVec 32 := 1#32
  let v349 : BitVec 32 := Scalar.muli v7 c1_i32_351
  let v350 : BitVec 32 := Scalar.addi v348 v349
  v350.toNat
-- ==== ReferenceIdeal.lean ====
abbrev S2x2x4096x2048 : Shape := ⟨4, ![2, 2, 4096, 2048]⟩
abbrev S_ : Shape := ⟨0, ![]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x2x4096x2048, .f32⟩
  | .hbm, ⟨1, _⟩ => ⟨S_, .f32⟩
  | .hbm, ⟨2, _⟩ => ⟨S4096x2048, .f32⟩
  | _, _ => ⟨S2x2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Mesh.lean ====
/-
# The mesh and the blocks the kernel works on

Four devices, `c = 2x + y`. The array of 4096 rows is cut into eight blocks of 512 rows. The first four (side `true`)
are reduced first along x and then along y; the last four (side `false`) first along y and then along x. On either
side each device is the owner of one block.

This file names a device's partners, the eight blocks, the memory the kernel addresses block by block, and the
contents each block holds at each stage.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Partners -/

set_option backward.proofsInPublic true in
/-- The device with the other x. -/
def px (c : Dev nD) : Dev nD := ⟨(c.val + 2) % 4, Nat.mod_lt _ (by decide)⟩
set_option backward.proofsInPublic true in
/-- The device with the other y. -/
def py (c : Dev nD) : Dev nD := ⟨2 * (c.val / 2) + (c.val + 1) % 2, by have := c.isLt; show _ < 4; have : c.val < 4 := this; omega⟩
/-- The partner along x (`true`) or along y (`false`): side `s` exchanges first with `pt s` and then with `pt (!s)`. -/
def pt (b : Bool) (c : Dev nD) : Dev nD := if b then px c else py c

/-- A partner's partner is the device itself. -/
theorem pt_pt (b : Bool) (c : Dev nD) : pt b (pt b c) = c := by revert b c; decide
/-- The two partners can be taken in either order. -/
theorem pt_comm (b : Bool) (c : Dev nD) : pt (!b) (pt b c) = pt b (pt (!b) c) := by revert b c; decide

/-- Taking the partner, as a bijection of the devices. -/
def ptE (b : Bool) : Dev nD ≃ Dev nD := ⟨pt b, pt b, pt_pt b, pt_pt b⟩

/-! ## Blocks -/

set_option backward.proofsInPublic true in
/-- The number of the block device `c` owns on side `s`. -/
def bk (s : Bool) (c : Dev nD) : Fin 8 := if s then ⟨c.val, by have : c.val < 4 := c.isLt; omega⟩ else ⟨4 + 2 * (c.val % 2) + c.val / 2, by have : c.val < 4 := c.isLt; omega⟩

set_option backward.proofsInPublic true in
/-- The eight blocks are the four devices' blocks on the two sides. -/
theorem bk_injective : Function.Injective fun p : Bool × Dev nD => bk p.1 p.2 := by decide
/-- Every block has an owner on one of the sides. -/
theorem bk_surjective : Function.Surjective fun p : Bool × Dev nD => bk p.1 p.2 := by decide

/-- The eight blocks, each by its side and owner. -/
def bkE : Bool × Dev nD ≃ Fin 8 := Equiv.ofBijective _ ⟨bk_injective, bk_surjective⟩

/-- Block `b` lies in the input. -/
theorem xinb (b : Fin 8) : ∀ a, (![0, 0, 512 * b.val, 0] : Fin 4 → ℕ) a + S1x1x512x2048.size a ≤ S1x1x4096x2048.size a := by revert b; decide
/-- Block `b` lies in the result. -/
theorem oinb (b : Fin 8) : ∀ a, (![512 * b.val, 0] : Fin 2 → ℕ) a + S512x2048.size a ≤ S4096x2048.size a := by revert b; decide
/-- Slot `i` lies in its buffer. -/
theorem vinb (i : Fin 2) : ∀ a, (![i.val, 0, 0] : Fin 3 → ℕ) a + S1x512x2048.size a ≤ S2x512x2048.size a := by revert i; decide

/-- Block `b` of the input as a rectangle. -/
abbrev xR (b : Fin 8) : Rect S1x1x4096x2048 := Rect.unit (s := S1x1x4096x2048) ![0, 0, 512 * b.val, 0] S1x1x512x2048.size (xinb b)
/-- Block `b` of the result as a rectangle. -/
abbrev oR (b : Fin 8) : Rect S4096x2048 := Rect.unit (s := S4096x2048) ![512 * b.val, 0] S512x2048.size (oinb b)
/-- Slot `i` of a two-slot buffer as a rectangle. -/
abbrev vR (i : Fin 2) : Rect S2x512x2048 := Rect.unit (s := S2x512x2048) ![i.val, 0, 0] S1x512x2048.size (vinb i)

/-- Block `b` of the input. -/
abbrev xM (b : Fin 8) : Memref sig .tc .hbm S512x2048 .f32 :=
  ((Memref.whole main_arg0).slice (xR b) (fun _ => rfl)).squeeze S512x2048 squeezes_S1x1x512x2048_S512x2048
/-- Block `b` of the result. -/
abbrev oM (b : Fin 8) : Memref sig .tc .hbm S512x2048 .f32 := (Memref.whole main_v1).slice (oR b) (fun _ => rfl)

/-- Slot `i` of side `s`'s two-slot landing buffer. -/
abbrev vM (s : Bool) (i : Fin 2) : Memref sig .tc .vmem S512x2048 .f32 :=
  match s with
  | true => ((Memref.whole cc0_scratch0).slice (vR i) (fun _ => rfl)).squeeze S512x2048 squeezes_S1x512x2048_S512x2048
  | false => ((Memref.whole cc0_scratch1).slice (vR i) (fun _ => rfl)).squeeze S512x2048 squeezes_S1x512x2048_S512x2048
/-- Side `s`'s landing buffer of the second exchange. -/
abbrev rM (s : Bool) : Memref sig .tc .vmem S512x2048 .f32 := match s with | true => Memref.whole cc0_scratch2 | false => Memref.whole cc0_scratch3
/-- Side `s`'s copies of two input blocks: the one to send on (`0`), the own one (`1`). -/
abbrev wM (s : Bool) (i : Fin 2) : Memref sig .tc .vmem S512x2048 .f32 :=
  match s, i with
  | true, 0 => Memref.whole cc0_scratch4
  | true, 1 => Memref.whole cc0_scratch5
  | false, 0 => Memref.whole cc0_scratch6
  | false, 1 => Memref.whole cc0_scratch7

/-- A slice of the input at an offset that is a block's is that block. -/
theorem x_slice {off : Fin 4 → ℕ} (inb) (b : Fin 8) (h : off = ![0, 0, 512 * b.val, 0]) :
    ((Memref.whole main_arg0).slice (Rect.unit (s := S1x1x4096x2048) off S1x1x512x2048.size inb) (fun _ => rfl)).squeeze S512x2048 squeezes_S1x1x512x2048_S512x2048 = xM b := by
  subst h; rfl
/-- A slice of the result at an offset that is a block's is that block. -/
theorem o_slice {off : Fin 2 → ℕ} (inb) (b : Fin 8) (h : off = ![512 * b.val, 0]) :
    (Memref.whole main_v1).slice (Rect.unit (s := S4096x2048) off S512x2048.size inb) (fun _ => rfl) = oM b := by
  subst h; rfl

/-! ## The kernel's device numbers and offsets -/

/-- The kernel's device number 1 is this partner's. -/
theorem dev1_eq (c : Dev nD) : (⟨k0_dev1 c, k0_dev1_lt c⟩ : Dev nD) = pt true c := Fin.ext ((k0_dev1_eq c).trans (by revert c; decide))
/-- The kernel's device number 2 is this partner's. -/
theorem dev2_eq (c : Dev nD) : (⟨k0_dev2 c, k0_dev2_lt c⟩ : Dev nD) = pt false c := Fin.ext ((k0_dev2_eq c).trans (by revert c; decide))
/-- The kernel's device number 3 is this partner's. -/
theorem dev3_eq (c : Dev nD) : (⟨k0_dev3 c, k0_dev3_lt c⟩ : Dev nD) = pt true c := Fin.ext ((k0_dev3_eq c).trans (by revert c; decide))
/-- The kernel's device number 4 is this partner's. -/
theorem dev4_eq (c : Dev nD) : (⟨k0_dev4 c, k0_dev4_lt c⟩ : Dev nD) = pt false c := Fin.ext ((k0_dev4_eq c).trans (by revert c; decide))
/-- The kernel's device number 5 is this partner's. -/
theorem dev5_eq (c : Dev nD) : (⟨k0_dev5 c, k0_dev5_lt c⟩ : Dev nD) = pt true c := Fin.ext ((k0_dev5_eq c).trans (by revert c; decide))
/-- The kernel's device number 6 is this partner's. -/
theorem dev6_eq (c : Dev nD) : (⟨k0_dev6 c, k0_dev6_lt c⟩ : Dev nD) = pt false c := Fin.ext ((k0_dev6_eq c).trans (by revert c; decide))
/-- The kernel's device number 7 is this partner's. -/
theorem dev7_eq (c : Dev nD) : (⟨k0_dev7 c, k0_dev7_lt c⟩ : Dev nD) = pt false c := Fin.ext ((k0_dev7_eq c).trans (by revert c; decide))
/-- The kernel's device number 8 is this partner's. -/
theorem dev8_eq (c : Dev nD) : (⟨k0_dev8 c, k0_dev8_lt c⟩ : Dev nD) = pt true c := Fin.ext ((k0_dev8_eq c).trans (by revert c; decide))
/-- The kernel's device number 9 is this partner's. -/
theorem dev9_eq (c : Dev nD) : (⟨k0_dev9 c, k0_dev9_lt c⟩ : Dev nD) = pt false c := Fin.ext ((k0_dev9_eq c).trans (by revert c; decide))
/-- The kernel's device number 10 is this partner's. -/
theorem dev10_eq (c : Dev nD) : (⟨k0_dev10 c, k0_dev10_lt c⟩ : Dev nD) = pt true c := Fin.ext ((k0_dev10_eq c).trans (by revert c; decide))
/-- The kernel's device number 11 is this partner's. -/
theorem dev11_eq (c : Dev nD) : (⟨k0_dev11 c, k0_dev11_lt c⟩ : Dev nD) = pt true c := Fin.ext ((k0_dev11_eq c).trans (by revert c; decide))
/-- The kernel's device number 12 is this partner's. -/
theorem dev12_eq (c : Dev nD) : (⟨k0_dev12 c, k0_dev12_lt c⟩ : Dev nD) = pt false c := Fin.ext ((k0_dev12_eq c).trans (by revert c; decide))
/-- The kernel's device number 13 is this partner's. -/
theorem dev13_eq (c : Dev nD) : (⟨k0_dev13 c, k0_dev13_lt c⟩ : Dev nD) = pt true c := Fin.ext ((k0_dev13_eq c).trans (by revert c; decide))
/-- The kernel's device number 14 is this partner's. -/
theorem dev14_eq (c : Dev nD) : (⟨k0_dev14 c, k0_dev14_lt c⟩ : Dev nD) = pt false c := Fin.ext ((k0_dev14_eq c).trans (by revert c; decide))

/-- The kernel's offset 1 is this block's. -/
theorem off1_eq (c : Dev nD) : k0_off1 c = ![0, 0, 512 * (bk true (pt false c)).val, 0] := (k0_off1_eq c).trans (by revert c; decide)
/-- The kernel's offset 2 is this block's. -/
theorem off2_eq (c : Dev nD) : k0_off2 c = ![0, 0, 512 * (bk false (pt true c)).val, 0] := (k0_off2_eq c).trans (by revert c; decide)
/-- The kernel's offset 3 is this block's. -/
theorem off3_eq (c : Dev nD) : k0_off3 c = ![0, 0, 512 * (bk true c).val, 0] := (k0_off3_eq c).trans (by revert c; decide)
/-- The kernel's offset 4 is this block's. -/
theorem off4_eq (c : Dev nD) : k0_off4 c = ![0, 0, 512 * (bk false c).val, 0] := (k0_off4_eq c).trans (by revert c; decide)
/-- The kernel's offset 5 is this block's. -/
theorem off5_eq (c : Dev nD) : k0_off5 c = ![0, 0, 512 * (bk true (pt true (pt false c))).val, 0] := (k0_off5_eq c).trans (by revert c; decide)
/-- The kernel's offset 6 is this block's. -/
theorem off6_eq (c : Dev nD) : k0_off6 c = ![0, 0, 512 * (bk false (pt false (pt true c))).val, 0] := (k0_off6_eq c).trans (by revert c; decide)
/-- The kernel's offset 7 is this block's. -/
theorem off7_eq (c : Dev nD) : k0_off7 c = ![0, 0, 512 * (bk true (pt true c)).val, 0] := (k0_off7_eq c).trans (by revert c; decide)
/-- The kernel's offset 8 is this block's. -/
theorem off8_eq (c : Dev nD) : k0_off8 c = ![0, 0, 512 * (bk false (pt false c)).val, 0] := (k0_off8_eq c).trans (by revert c; decide)
/-- The kernel's offset 9 is this block's. -/
theorem off9_eq (c : Dev nD) : k0_off9 c = ![512 * (bk true c).val, 0] := (k0_off9_eq c).trans (by revert c; decide)
/-- The kernel's offset 10 is this block's. -/
theorem off10_eq (c : Dev nD) : k0_off10 c = ![512 * (bk false c).val, 0] := (k0_off10_eq c).trans (by revert c; decide)
/-- The kernel's offset 11 is this block's. -/
theorem off11_eq (c : Dev nD) : k0_off11 c = ![512 * (bk true (pt false c)).val, 0] := (k0_off11_eq c).trans (by revert c; decide)
/-- The kernel's offset 12 is this block's. -/
theorem off12_eq (c : Dev nD) : k0_off12 c = ![512 * (bk false (pt true c)).val, 0] := (k0_off12_eq c).trans (by revert c; decide)

/-! ## The resources -/

/-- The protocol's ghost state beside the launch's own. -/
abbrev UB : Type := URounds (GSem nD τ sig) Bool
/-- All the ghost state. -/
abbrev UU : Type := UR sig nD τ × UB

local notation "𝕄" => MT nD τ sig Unit (Elt F) ℕ UU ℕ

/-! ## Owning a memref -/

section Owns

variable {κ : Kind} {sp : Space} {s : Shape} {e : EltTy}

omit [FloatOps F] in
/-- A memref owned at what it reads of buffer contents is its elements at those contents. -/
theorem owns_read (c : Thread nD τ) (M : Memref sig c.2.kind sp s e) (q : PosShare TreeShare) (f : M.view.ty.Contents (Elt F)) :
    (owns c M q (M.view.read (Elt F) f) : sProp 𝕄) = (M.view.loc c ↦[M.view.set]{q} f) := by
  refine (fun (h : (owns c M q (M.view.read (Elt F) f) : sProp 𝕄) ⊢ (M.view.loc c ↦[M.view.set]{q} f)) => ?_) ?_
  · exact BI.equiv_iff.mp ⟨h, owns_intro c M q f⟩
  unfold owns
  iintro ⟨%g, %hg, H⟩
  rw [show (M.view.loc c ↦[M.view.set]{q} f : sProp 𝕄) = (M.view.loc c ↦[M.view.set]{q} g) from
    pointsTo_congr fun i hi => by
      rw [View.set, Finset.mem_map] at hi
      obtain ⟨x, -, rfl⟩ := hi
      have := congrFun hg x
      simp only [View.read] at this
      exact ((cast_inj _).mp this).symm]
  iexact H

omit [FloatOps F] in
/-- What is owned as a memref is its elements, at some contents it reads so. -/
theorem owns_elim (c : Thread nD τ) (M : Memref sig c.2.kind sp s e) (q : PosShare TreeShare) (X : s.Idx → Elt F e) :
    (owns c M q X : sProp 𝕄) ⊢ iprop(∃ f, ⌜M.view.read (Elt F) f = X⌝ ∗ (M.view.loc c ↦[M.view.set]{q} f)) := by
  unfold owns; exact .rfl

omit [FloatOps F] in
/-- Owned memory splits into two shares of it. -/
theorem owns_share (c : Thread nD τ) (M : Memref sig c.2.kind sp s e) (q : PosShare TreeShare) (X : s.Idx → Elt F e) :
    (owns c M q X : sProp 𝕄) ⊢ iprop(owns c M q.left X ∗ owns c M q.right X) := by
  iintro H
  ihave H := (owns_elim c M q X) $$ H
  icases H with ⟨%f, %hf, H⟩
  subst hf
  rw [owns_read, owns_read]
  iapply (pointsTo_share (PosShare.mem_left_op_right q)).1
  iexact H

omit [FloatOps F] in
/-- Two shares of the same memory, both holding `X`, join. -/
theorem owns_join (c : Thread nD τ) (M : Memref sig c.2.kind sp s e) (q : PosShare TreeShare) (X : s.Idx → Elt F e) :
    iprop(owns c M q.left X ∗ owns c M q.right X) ⊢ (owns c M q X : sProp 𝕄) := by
  iintro ⟨H, H'⟩
  ihave H := (owns_elim c M _ X) $$ H
  icases H with ⟨%f, %hf, H⟩
  subst hf
  ihave H' := (Entails.of_eq (owns_read c M q.right f)) $$ H'
  rw [owns_read]
  iapply (show iprop((M.view.loc c ↦[M.view.set]{q.left} f) ∗ (M.view.loc c ↦[M.view.set]{q.right} f)) ⊢ (M.view.loc c ↦[M.view.set]{q} f : sProp 𝕄)
    from (pointsTo_share (PosShare.mem_left_op_right q)).2)
  isplitl [H]; · iexact H
  iexact H'

end Owns

/-- A memref owned outright, whatever it holds. -/
def some' {sp : Space} {s : Shape} {e : EltTy} (c : Dev nD) (M : Memref sig .tc sp s e) : sProp 𝕄 := iprop(∃ X, owns (c : Thread nD τ) M fullShare X)

end Cert.KernelIdeal.Sum

end
-- ==== Proof.KernelIdeal.Contents.lean ====
/-
# What each block holds

The contents of every block at every stage as functions of the launch memory, and the buffers the kernel is given cut
into the blocks it works on and put together again.
-/
module

public import proofs.«01_k».proof.Proof.KernelIdeal.Mesh
public import Idealize.ShloMosaic.Lib.Pipeline.ValueKit.Geometry

@[expose] public section

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Idealize.ShloMosaic.Ring

variable {F : FTy → Type} [FloatOps F]

local notation "𝕄" => MT nD τ sig Unit (Elt F) ℕ UU ℕ

variable (m : (ℓ : Loc nD τ sig) → Buf (Elt F) ℓ)

/-! ## Contents -/

/-- A block's contents. -/
abbrev Blk (F : FTy → Type) : Type := S512x2048.Idx → Elt F .f32

/-- The kernel's addition of two blocks. -/
def ad (Y Z : Blk F) : Blk F := addf (F := F) (s := S512x2048) (φ := .f32) Y Z

/-- Block `b` of device `c`'s input. -/
def xb (c : Dev nD) (b : Fin 8) : Blk F := (xM b).view.read (Elt F) (m ((c : Thread nD τ).loc main_arg0))
/-- What lands first in slot 0 on `c`: the first partner's part of the block the second partner owns. -/
def land0 (s : Bool) (c : Dev nD) : Blk F := xb m (pt s c) (bk s (pt (!s) c))
/-- The two devices' sum of that block, which `c` sends to the second partner. -/
def par (s : Bool) (c : Dev nD) : Blk F := ad (land0 m s c) (xb m c (bk s (pt (!s) c)))
/-- What lands in slot 1 on `c`: the first partner's part of `c`'s own block. -/
def land1 (s : Bool) (c : Dev nD) : Blk F := xb m (pt s c) (bk s c)
/-- The two devices' sum of `c`'s own block. -/
def own (s : Bool) (c : Dev nD) : Blk F := ad (land1 m s c) (xb m c (bk s c))
/-- The four devices' sum of `c`'s own block. -/
def fin (s : Bool) (c : Dev nD) : Blk F := ad (own m s c) (par m s (pt (!s) c))

/-- An index of the result inside its block. -/
def inBlk (i : S4096x2048.Idx) : S512x2048.Idx := fun a => match a with
  | ⟨0, _⟩ => (⟨(i 0).val % 512, Nat.mod_lt _ (by decide)⟩ : Fin 512)
  | ⟨1, _⟩ => (i 1 : Fin 2048)
/-- The block an index of the result lies in. -/
def blkOf (i : S4096x2048.Idx) : Fin 8 := ⟨(i 0).val / 512, by have : (i 0).val < 4096 := (i 0).isLt; omega⟩

/-- The whole result: every block at the four devices' sum. -/
def outV : S4096x2048.Idx → Elt F .f32 := fun i =>
  fin m (bkE.symm (blkOf i)).1 (bkE.symm (blkOf i)).2 (inBlk i)

omit [FloatOps F] in
/-- Element `j` of block `b` lies in block `b`. -/
theorem blkOf_emb (b : Fin 8) (j : S512x2048.Idx) : blkOf ((oR b).emb j) = b := by
  refine Fin.ext ?_
  have h := ValueKit.rect_emb_unit_val (s := S4096x2048) ![512 * b.val, 0] S512x2048.size (oinb b) j 0
  have h0 : ((oR b).emb j 0 : ℕ) = 512 * b.val + (j 0).val := h
  show ((oR b).emb j 0 : ℕ) / 512 = b.val
  have hj : (j 0).val < 512 := (j 0).isLt
  omega

omit [FloatOps F] in
/-- Its place in that block is `j`. -/
theorem inBlk_emb (b : Fin 8) (j : S512x2048.Idx) : inBlk ((oR b).emb j) = j := by
  funext a
  have h := ValueKit.rect_emb_unit_val (s := S4096x2048) ![512 * b.val, 0] S512x2048.size (oinb b) j
  fin_cases a
  · refine Fin.ext ?_
    have h0 : ((oR b).emb j 0 : ℕ) = 512 * b.val + (j 0).val := h 0
    have hj : (j 0).val < 512 := (j 0).isLt
    show ((oR b).emb j 0 : ℕ) % 512 = (j 0).val
    omega
  · refine Fin.ext ?_
    have h1 : ((oR b).emb j 1 : ℕ) = 0 + (j 1).val := h 1
    show ((oR b).emb j 1 : ℕ) = (j 1).val
    omega

/-- The whole result at a block is that block's sum. -/
theorem outV_emb (s : Bool) (d : Dev nD) : (fun j => outV m ((oR (bk s d)).emb j)) = fin m s d := by
  funext j
  have hb : bkE.symm (bk s d) = (s, d) := bkE.symm_apply_apply (s, d)
  unfold outV
  rw [blkOf_emb, inBlk_emb, hb]

/-! ## Cutting and joining the buffers -/

omit [FloatOps F] in
/-- Two blocks of the input do not meet. -/
theorem x_disj (t t' : Bool × Dev nD) (h : t ≠ t') : Disjoint (xR (bk t.1 t.2)).set (xR (bk t'.1 t'.2)).set :=
  lead_disjoint (s := S1x1x4096x2048) (2 : Fin 4) 512 (fun b : Fin 8 => ![0, 0, 512 * b.val, 0]) S1x1x512x2048.size xinb
    (fun _ => rfl) rfl _ _ fun e => h (bk_injective e)
omit [FloatOps F] in
/-- Two blocks of the result do not meet. -/
theorem o_disj (t t' : Bool × Dev nD) (h : t ≠ t') : Disjoint (oR (bk t.1 t.2)).set (oR (bk t'.1 t'.2)).set :=
  lead_disjoint (s := S4096x2048) (0 : Fin 2) 512 (fun b : Fin 8 => ![512 * b.val, 0]) S512x2048.size oinb
    (fun _ => rfl) rfl _ _ fun e => h (bk_injective e)
omit [FloatOps F] in
/-- The two slots of a buffer do not meet. -/
theorem v_disj (t t' : Fin 2) (h : t ≠ t') : Disjoint (vR t).set (vR t').set :=
  lead_disjoint (s := S2x512x2048) (0 : Fin 3) 1 (fun i : Fin 2 => ![i.val, 0, 0]) S1x512x2048.size vinb
    (fun i => (Nat.one_mul _).symm) rfl _ _ h

/-- A family over the blocks' numbers is the family over their owners. -/
theorem biUnion_bk {α : Type} [DecidableEq α] (f : Fin 8 → Finset α) :
    (Finset.univ : Finset (Bool × Dev nD)).biUnion (fun t => f (bk t.1 t.2)) = Finset.univ.biUnion f := by
  ext i
  simp only [Finset.mem_biUnion, Finset.mem_univ, true_and]
  exact ⟨fun ⟨t, h⟩ => ⟨_, h⟩, fun ⟨b, h⟩ => by obtain ⟨t, rfl⟩ := bk_surjective b; exact ⟨t, h⟩⟩

omit [FloatOps F] in
/-- The eight blocks are all of the input. -/
theorem x_cover : (Finset.univ : Finset (Bool × Dev nD)).biUnion (fun t => (xR (bk t.1 t.2)).set) = Finset.univ :=
  (biUnion_bk fun b => (xR b).set).trans
    (lead_cover (s := S1x1x4096x2048) (2 : Fin 4) 512 (fun b : Fin 8 => ![0, 0, 512 * b.val, 0]) S1x1x512x2048.size xinb
      (fun _ => rfl) (fun b a h => by fin_cases a <;> first | rfl | exact absurd rfl h) rfl
      (fun a h => by fin_cases a <;> first | rfl | exact absurd rfl h) rfl)
omit [FloatOps F] in
/-- The eight blocks are all of the result. -/
theorem o_cover : (Finset.univ : Finset (Bool × Dev nD)).biUnion (fun t => (oR (bk t.1 t.2)).set) = Finset.univ :=
  (biUnion_bk fun b => (oR b).set).trans
    (lead_cover (s := S4096x2048) (0 : Fin 2) 512 (fun b : Fin 8 => ![512 * b.val, 0]) S512x2048.size oinb
      (fun _ => rfl) (fun b a h => by fin_cases a <;> first | rfl | exact absurd rfl h) rfl
      (fun a h => by fin_cases a <;> first | rfl | exact absurd rfl h) rfl)
omit [FloatOps F] in
/-- The two slots are all of the buffer. -/
theorem v_cover : (Finset.univ : Finset (Fin 2)).biUnion (fun t => (vR t).set) = Finset.univ :=
  lead_cover (s := S2x512x2048) (0 : Fin 3) 1 (fun i : Fin 2 => ![i.val, 0, 0]) S1x512x2048.size vinb
    (fun i => (Nat.one_mul _).symm) (fun b a h => by fin_cases a <;> first | rfl | exact absurd rfl h) rfl
    (fun a h => by fin_cases a <;> first | rfl | exact absurd rfl h) rfl

/-- A block of the input owned at what it holds is the buffer's elements under it. -/
theorem owns_x (c : Dev nD) (b : Fin 8) (q : PosShare TreeShare) (f : Buf (Elt F) ((c : Thread nD τ).loc main_arg0)) :
    (owns (c : Thread nD τ) (xM b) q ((xM b).view.read (Elt F) f) : sProp 𝕄)
      = owns (c : Thread nD τ) ((Memref.whole main_arg0).slice (xR b) (fun _ => rfl)) q (fun j => (Memref.whole main_arg0).view.read (Elt F) f ((xR b).emb j)) := by
  rw [owns_read, owns_slice_read, View.set_reshape]

/-- The input buffer is its eight blocks. -/
theorem x_split (c : Dev nD) :
    (((c : Thread nD τ).loc main_arg0) ↦{fullShare} m ((c : Thread nD τ).loc main_arg0) : sProp 𝕄)
      = bigSep Finset.univ fun t : Bool × Dev nD => owns (c : Thread nD τ) (xM (bk t.1 t.2)) fullShare (xb m c (bk t.1 t.2)) := by
  have h := pointsTo_rects (Ix := Unit) (Name := ℕ) (U := UU) (Lvl := ℕ) (c : Thread nD τ) (Memref.whole main_arg0) fullShare (fun t : Bool × Dev nD => xR (bk t.1 t.2)) (fun _ _ => rfl) x_disj x_cover
    (m ((c : Thread nD τ).loc main_arg0))
  rw [show (Memref.whole main_arg0).view.set = Finset.univ from View.set_whole _] at h
  refine Eq.trans h (bigSep_congr fun t _ => ?_)
  exact (owns_x c (bk t.1 t.2) fullShare _).symm

/-- The result buffer, whatever it holds, is its eight blocks. -/
theorem o_split (c : Dev nD) (f : Buf (Elt F) ((c : Thread nD τ).loc main_v1)) :
    (((c : Thread nD τ).loc main_v1) ↦{fullShare} f : sProp 𝕄)
      ⊢ bigSep Finset.univ fun t : Bool × Dev nD => some' c (oM (bk t.1 t.2)) := by
  have h := pointsTo_rects (Ix := Unit) (Name := ℕ) (U := UU) (Lvl := ℕ) (c : Thread nD τ) (Memref.whole main_v1) fullShare (fun t : Bool × Dev nD => oR (bk t.1 t.2)) (fun _ _ => rfl) o_disj o_cover f
  rw [show (Memref.whole main_v1).view.set = Finset.univ from View.set_whole _] at h
  refine (Entails.of_eq h).trans (bigSep_mono fun t _ => ?_)
  unfold some'
  show (_ : sProp 𝕄) ⊢ _
  iintro H; iexists _; iexact H

/-- The eight blocks of the result, each at its sum, are the whole result. -/
theorem o_join (c : Dev nD) :
    (bigSep Finset.univ fun t : Bool × Dev nD => owns (c : Thread nD τ) (oM (bk t.1 t.2)) fullShare (fin m t.1 t.2))
      ⊢ (((c : Thread nD τ).loc main_v1) ↦{fullShare} outV m : sProp 𝕄) := by
  have h := owns_of_rects (Ix := Unit) (Name := ℕ) (U := UU) (Lvl := ℕ) (Val := Elt F) (c : Thread nD τ) (Memref.whole main_v1) fullShare (fun t : Bool × Dev nD => oR (bk t.1 t.2)) (fun _ _ => rfl) o_disj o_cover (outV m)
  rw [owns_whole] at h
  refine BIBase.Entails.trans (bigSep_mono fun t _ => show (_ : sProp 𝕄) ⊢ _ from Entails.of_eq ?_) h
  rw [outV_emb]

/-- A two-slot buffer splits into its two slots. -/
theorem v_split (s : Bool) (c : Dev nD) :
    (match s with
      | true => iprop(∃ f : Buf (Elt F) ((c : Thread nD τ).loc cc0_scratch0), ((c : Thread nD τ).loc cc0_scratch0) ↦{fullShare} f)
      | false => iprop(∃ f : Buf (Elt F) ((c : Thread nD τ).loc cc0_scratch1), ((c : Thread nD τ).loc cc0_scratch1) ↦{fullShare} f))
      ⊢ (iprop(some' c (vM s 0) ∗ some' c (vM s 1)) : sProp 𝕄) := by
  cases s
  · iintro ⟨%f, H⟩
    have h := pointsTo_rects (Ix := Unit) (Name := ℕ) (U := UU) (Lvl := ℕ) (c : Thread nD τ) (Memref.whole cc0_scratch1) fullShare vR (fun _ _ => rfl) v_disj v_cover f
    rw [show (Memref.whole cc0_scratch1).view.set = Finset.univ from View.set_whole _, bigSep_fin2, owns_slice_read, owns_slice_read] at h
    ihave H := (Entails.of_eq h) $$ H
    icases H with ⟨H0, H1⟩
    unfold some'
    isplitl [H0]
    · iexists ((vM false 0).view.read (Elt F) f); rw [owns_read, View.set_reshape]; iexact H0
    · iexists ((vM false 1).view.read (Elt F) f); rw [owns_read, View.set_reshape]; iexact H1
  · iintro ⟨%f, H⟩
    have h := pointsTo_rects (Ix := Unit) (Name := ℕ) (U := UU) (Lvl := ℕ) (c : Thread nD τ) (Memref.whole cc0_scratch0) fullShare vR (fun _ _ => rfl) v_disj v_cover f
    rw [show (Memref.whole cc0_scratch0).view.set = Finset.univ from View.set_whole _, bigSep_fin2, owns_slice_read, owns_slice_read] at h
    ihave H := (Entails.of_eq h) $$ H
    icases H with ⟨H0, H1⟩
    unfold some'
    isplitl [H0]
    · iexists ((vM true 0).view.read (Elt F) f); rw [owns_read, View.set_reshape]; iexact H0
    · iexists ((vM true 1).view.read (Elt F) f); rw [owns_read, View.set_reshape]; iexact H1

/-- A buffer's two slots, whatever they hold, are the buffer. -/
theorem v_join (c : Dev nD) (M : Memref sig .tc .vmem S2x512x2048 .f32) :
    iprop(some' c ((M.slice (vR 0) (fun _ => rfl)).squeeze S512x2048 squeezes_S1x512x2048_S512x2048)
        ∗ some' c ((M.slice (vR 1) (fun _ => rfl)).squeeze S512x2048 squeezes_S1x512x2048_S512x2048))
      ⊢ (iprop(∃ f : Buf (Elt F) (M.view.loc (c : Thread nD τ)), M.view.loc (c : Thread nD τ) ↦[M.view.set]{fullShare} f) : sProp 𝕄) := by
  have hset (i : Fin 2) : ((M.slice (vR i) (fun _ => rfl)).squeeze S512x2048 squeezes_S1x512x2048_S512x2048).view.set = (vR i).set.map M.view.emb :=
    (View.set_reshape _ _).trans (View.set_slice _ _)
  have hdisj : Disjoint ((vR 0).set.map M.view.emb) ((vR 1).set.map M.view.emb) := (Finset.disjoint_map _).mpr (v_disj 0 1 (by decide))
  have hall : M.view.set = (vR 0).set.map M.view.emb ∪ (vR 1).set.map M.view.emb := by
    rw [← Finset.map_union, show (vR 0).set ∪ (vR 1).set = Finset.univ from ?_, View.set]
    rw [← v_cover]; ext i; simp only [Finset.mem_union, Finset.mem_biUnion, Finset.mem_univ, true_and, Fin.exists_fin_two]
  unfold some'
  iintro ⟨⟨%X, H0⟩, ⟨%Y, H1⟩⟩
  ihave H0 := (owns_elim (c : Thread nD τ) _ fullShare X) $$ H0
  ihave H1 := (owns_elim (c : Thread nD τ) _ fullShare Y) $$ H1
  icases H0 with ⟨%f, -, H0⟩
  icases H1 with ⟨%g, -, H1⟩
  ihave H0 := (Entails.of_eq (congrArg (fun I => (M.view.loc (c : Thread nD τ) ↦[I]{fullShare} f : sProp 𝕄)) (hset 0))) $$ H0
  ihave H1 := (Entails.of_eq (congrArg (fun I => (M.view.loc (c : Thread nD τ) ↦[I]{fullShare} g : sProp 𝕄)) (hset 1))) $$ H1
  rw [hall]
  iexists _
  iapply (pointsTo_join hdisj)
  isplitl [H0]; · iexact H0
  iexact H1

/-- A whole buffer at some contents is its memref at some contents. -/
theorem some_whole (c : Dev nD) (b : Ref sig .tc) :
    (iprop(∃ f : Buf (Elt F) ((c : Thread nD τ).loc b), ((c : Thread nD τ).loc b) ↦{fullShare} f) : sProp 𝕄) = some' c (Memref.whole b) := by
  unfold some'
  simp only [owns_whole]

end Cert.KernelIdeal.Sum

end
-- ==== Proof.KernelIdeal.Schedule.lean ====
/-
# Who signals what, and what comes with it

Each device has one barrier semaphore and 28 DMA semaphores, 14 to a side: six for the transfers it sends, six for the
transfers that land on it, two for its copies to itself. The schedule says of each how much it is raised by and which
memory, with which contents, whoever waits on it then holds.
-/
module

public import proofs.«01_k».proof.Proof.KernelIdeal.Contents
public import Idealize.ShloMosaic.Lib.Rounds

@[expose] public section

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Idealize.ShloMosaic.Ring

variable {F : FTy → Type} [FloatOps F]

local notation "𝕄" => MT nD τ sig Unit (Elt F) ℕ UU ℕ

variable (m : (ℓ : Loc nD τ sig) → Buf (Elt F) ℓ)

/-! ## Semaphores -/

/-- The barrier semaphore. -/
abbrev barS : Sem sig := (SemArray.scalar (sig.barrier 0 rfl) : Sems sig S_).sem
/-- DMA semaphore `j` of side `s`: 0–5 the transfers sent, 6–11 those received, 12 and 13 the local copies. -/
def sd (s : Bool) (j : Fin 14) : DmaSem sig :=
  if j.val < 12 then (if s then ⟨j.val, by have := j.isLt; show j.val < 28; omega⟩ else ⟨(12 + j.val) % 28, Nat.mod_lt _ (by decide)⟩)
  else (if s then ⟨2 * j.val % 28, Nat.mod_lt _ (by decide)⟩ else ⟨(2 * j.val + 1) % 28, Nat.mod_lt _ (by decide)⟩)
/-- Which side and place a DMA semaphore has. -/
def ch (k : DmaSem sig) : Bool × Fin 14 :=
  if k.val < 12 then (true, ⟨k.val % 14, Nat.mod_lt _ (by decide)⟩)
  else if k.val < 24 then (false, ⟨(k.val - 12) % 14, Nat.mod_lt _ (by decide)⟩)
  else (k.val % 2 == 0, ⟨(k.val / 2) % 14, Nat.mod_lt _ (by decide)⟩)

/-- The semaphore of a side and place has that side and place, -/
theorem ch_sd (s : Bool) (j : Fin 14) : ch (sd s j) = (s, j) := by revert s j; decide
/-- and each DMA semaphore is that of its side and place. -/
theorem sd_ch (k : DmaSem sig) : sd (ch k).1 (ch k).2 = k := by
  have h : ∀ k : Fin 28, sd (ch k).1 (ch k).2 = k := by decide
  exact h k

/-- What every transfer and copy of a block raises its semaphores by. -/
def N : ℕ := (rM true).view.dmaCredit
/-- Every block-sized buffer or part of one credits the same. -/
theorem credit_eq {sp : Space} (v : Memref sig .tc sp S512x2048 .f32) : v.view.dmaCredit = N := rfl
/-- A block counts for something. -/
theorem N_pos : 0 < N := View.dmaCredit_pos _ (by decide)

/-! ## Payloads -/

/-- Block `b` of the input, held outright at what it launched with. -/
abbrev xO (c : Dev nD) (b : Fin 8) : sProp 𝕄 := owns (c : Thread nD τ) (xM b) fullShare (xb m c b)
/-- Side `s`'s block of device `d` in `c`'s result, held outright at its sum. -/
abbrev oO (c : Dev nD) (s : Bool) (d : Dev nD) : sProp 𝕄 := owns (c : Thread nD τ) (oM (bk s d)) fullShare (fin m s d)

/-- What the waits on `c`'s DMA semaphores deliver. -/
def pay (c : Dev nD) (s : Bool) (j : Fin 14) (r : ℕ) : sProp 𝕄 := match j with
  | 0 => xO m c (bk s (pt (!s) (pt s c)))
  | 1 => xO m c (bk s (pt s c))
  | 2 => owns (c : Thread nD τ) (vM s 0) fullShare (par m s c)
  | 3 => owns (c : Thread nD τ) (vM s 1) fullShare.left (fin m s c)
  | 4 => owns (c : Thread nD τ) (vM s 1) fullShare.right.left (fin m s c)
  | 5 => oO m c s (pt (!s) c)
  | 6 => owns (c : Thread nD τ) (vM s 0) fullShare (land0 m s c)
  | 7 => owns (c : Thread nD τ) (vM s 1) fullShare (land1 m s c)
  | 8 => owns (c : Thread nD τ) (rM s) fullShare (par m s (pt (!s) c))
  | 9 => oO m c s (pt (!s) c)
  | 10 => oO m c s (pt s c)
  | 11 => oO m c s (pt (!s) (pt s c))
  | 12 => if r = 0 then iprop(owns (c : Thread nD τ) (wM s 0) fullShare (xb m c (bk s (pt (!s) c))) ∗ xO m c (bk s (pt (!s) c)))
      else iprop(oO m c s c ∗ owns (c : Thread nD τ) (vM s 1) fullShare.right.right (fin m s c))
  | 13 => iprop(owns (c : Thread nD τ) (wM s 1) fullShare (xb m c (bk s c)) ∗ xO m c (bk s c))

/-- What partner `b` of `c` lends `c` with its barrier signal: where `c`'s transfers to it will land. -/
def barPay (c : Dev nD) (b : Bool) : sProp 𝕄 :=
  iprop(some' (F := F) (pt b c) (vM b 0) ∗ some' (pt b c) (vM b 1) ∗ some' (pt b c) (rM (!b))
    ∗ some' (pt b c) (oM (bk b c)) ∗ some' (pt b c) (oM (bk b (pt (!b) c))) ∗ some' (pt b c) (oM (bk (!b) c)))

/-- A block of the input can be handed over through a semaphore. -/
instance xO_storable (c : Dev nD) (b : Fin 8) : BI.Storable (upEmb : UEmb _ 𝕄) (xO m c b) := by unfold xO; infer_instance
/-- So can a block of the result, -/
instance oO_storable (c : Dev nD) (s : Bool) (d : Dev nD) : BI.Storable (upEmb : UEmb _ 𝕄) (oO m c s d) := by unfold oO; infer_instance
/-- memory at some contents, -/
instance some'_storable {sp : Space} {s : Shape} {e : EltTy} (c : Dev nD) (M : Memref sig .tc sp s e) : BI.Storable (upEmb : UEmb _ 𝕄) (some' (F := F) c M) := by
  unfold some'; infer_instance
/-- what the barrier signals lend, -/
instance barPay_storable (c : Dev nD) (b : Bool) : BI.Storable (upEmb : UEmb _ 𝕄) (barPay (F := F) c b) := by unfold barPay; infer_instance
/-- and what the DMA semaphores deliver. -/
instance pay_storable (c : Dev nD) (s : Bool) (j : Fin 14) (r : ℕ) : BI.Storable (upEmb : UEmb _ 𝕄) (pay m c s j r) := by
  unfold pay; (repeat' split) <;> infer_instance

/-! ## The schedule -/

/-- The duties of a semaphore's rounds: the barrier's two in round 0, one for each DMA semaphore there, and one more for the
    first local copy of each side in round 1. -/
def dut (sm : SemLoc sig) (r : ℕ) : Finset Bool := match sm with
  | .reg _ => if r = 0 then Finset.univ else ∅
  | .dma k => if r = 0 ∨ (r = 1 ∧ (ch k).2 = 12) then {true} else ∅

/-- What one duty of a semaphore adds to it. -/
def wt (sm : SemLoc sig) : ℕ := match sm with
  | .reg _ => 1
  | .dma _ => N

/-- The schedule of all semaphores. -/
def Rd : Rounds.Schedule (GSem nD τ sig) Bool 𝕄 where
  duties g r := dut g.2 r
  unitless _ := False
  amount g _ _ := wt g.2
  payload g r d := match g.2 with
    | .reg _ => barPay g.1.1 d
    | .dma k => pay m g.1.1 (ch k).1 (ch k).2 r
  amount_pos g _ _ _ := by
    rcases g with ⟨t, _ | _⟩
    · exact Nat.one_pos
    · exact N_pos

/-- Whatever the schedule hands over can be handed over through a semaphore. -/
instance Rd_storable (g : GSem nD τ sig) (r : ℕ) (d : Bool) : BI.Storable (upEmb : UEmb _ 𝕄) ((Rd (F := F) m).payload g r d) := by
  rcases g with ⟨t, _ | _⟩
  · exact barPay_storable _ _
  · exact pay_storable m _ _ _ _

/-- The cell of a semaphore of device `c`. -/
abbrev cell (c : Dev nD) (sm : SemLoc sig) : GSem nD τ sig := ((c : Thread nD τ), sm)

/-- What the schedule delivers on a DMA semaphore. -/
theorem payload_dma (c : Dev nD) (s : Bool) (j : Fin 14) (r : ℕ) (d : Bool) :
    (Rd (F := F) m).payload (cell c (.dma (sd s j))) r d = pay m c s j r := by
  show pay m c (ch (sd s j)).1 (ch (sd s j)).2 r = _
  rw [ch_sd]

/-- Every DMA semaphore has one duty in round 0. -/
theorem dut_dma (k : DmaSem sig) : dut (.dma k) 0 = {true} := by unfold dut; exact if_pos (Or.inl rfl)
/-- The first local copy's semaphore has one in round 1 too. -/
theorem dut_loc (s : Bool) : dut (.dma (sd s 12)) 1 = {true} := by unfold dut; exact if_pos (Or.inr ⟨rfl, by rw [ch_sd]⟩)

/-- A round with one duty expects that duty's weight. -/
theorem expect_one (c : Dev nD) (sm : SemLoc sig) (r : ℕ) (h : dut sm r = {true}) : (Rd (F := F) m).expect (cell c sm) r = wt sm := by
  unfold Schedule.expect Schedule.amountOf
  show (dut sm r).sum (fun _ => wt sm) = _
  rw [h, Finset.sum_singleton]
/-- The barrier semaphore expects two signals. -/
theorem expect_bar (c : Dev nD) : (Rd (F := F) m).expect (cell c (.reg barS)) 0 = 2 := by
  unfold Schedule.expect Schedule.amountOf
  show (Finset.univ : Finset Bool).sum (fun _ => 1) = _
  decide

/-- One duty's payload is the round's. -/
theorem rest_one (c : Dev nD) (s : Bool) (j : Fin 14) (r : ℕ) (h : dut (.dma (sd s j)) r = {true}) :
    bigSep ((Rd (F := F) m).duties (cell c (.dma (sd s j))) r \ ∅) (fun d => (Rd (F := F) m).payload (cell c (.dma (sd s j))) r d) = pay m c s j r := by
  rw [Finset.sdiff_empty, show (Rd (F := F) m).duties (cell c (.dma (sd s j))) r = {true} from h, bigSep_singleton, payload_dma]
/-- The barrier round delivers both partners' payloads. -/
theorem rest_bar (c : Dev nD) :
    bigSep ((Rd (F := F) m).duties (cell c (.reg barS)) 0 \ ∅) (fun d => (Rd (F := F) m).payload (cell c (.reg barS)) 0 d)
      = iprop(barPay c true ∗ barPay c false) := by
  rw [Finset.sdiff_empty, show (Rd (F := F) m).duties (cell c (.reg barS)) 0 = Finset.univ from rfl,
    bigSep_univ_eq_bigSepL [true, false] (by decide) (by decide)]
  rfl

/-! ## What is owed, and the levels -/

/-- The partner the `i`-th transfer of side `s` goes to. -/
def dir (s : Bool) (i : Fin 6) : Bool := if i = 2 ∨ i = 3 then !s else s
/-- The place of the semaphore the `i`-th transfer raises where it lands. -/
def rv (i : Fin 6) : Fin 14 := ⟨(6 + i.val) % 14, Nat.mod_lt _ (by decide)⟩
/-- The place of the semaphore the `i`-th transfer raises where it comes from. -/
def sn (i : Fin 6) : Fin 14 := ⟨i.val % 14, Nat.mod_lt _ (by decide)⟩

/-- Everything a device raises on others, in program order: to which partner, and which semaphore. -/
def stepL : List (Bool × SemLoc sig) :=
  [(true, .reg barS), (false, .reg barS)]
    ++ ([(true, 0), (false, 0), (true, 1), (false, 1), (true, 2), (false, 2), (true, 3), (true, 4), (false, 3), (false, 4), (true, 5), (false, 5)]
        : List (Bool × Fin 6)).map fun p => (dir p.1 p.2, .dma (sd p.1 (rv p.2)))

/-- The tallies a list of raises amounts to. -/
def owL (l : List (Bool × SemLoc sig)) (c : Dev nD) : CellTallies nD τ sig Unit :=
  l.foldr (fun p T => T + tallyAt (cell (pt p.1 c) p.2) () (wt p.2)) 0
/-- What device `c` still owes after its first `n` raises. -/
def ow (n : ℕ) (c : Dev nD) : CellTallies nD τ sig Unit := owL (stepL.drop n) c

/-- The next raise takes its own weight off what is owed. -/
theorem ow_succ (n : ℕ) (c : Dev nD) (p : Bool × SemLoc sig) (h : stepL.drop n = p :: stepL.drop (n + 1)) :
    ow n c = ow (n + 1) c + tallyAt (cell (pt p.1 c) p.2) () (wt p.2) := by
  unfold ow; rw [h]; rfl

/-- The level of a semaphore: whoever waits on it owes only semaphores of a higher level. -/
def lvS (sm : SemLoc sig) : ℕ := match sm with
  | .reg _ => 1
  | .dma k => match (ch k).2 with
    | 6 => 2 | 7 => 2 | 8 => 3 | 9 => 4 | 10 => 4 | 11 => 5 | _ => 0
/-- The level of a device's semaphore. -/
def lv (g : GSem nD τ sig) (_ : Unit) : ℕ := lvS g.2
/-- Only the devices' main threads have semaphores in use. -/
def L (g : GSem nD τ sig) : Finset Unit := if g.1.2 = .tc then {()} else ∅
/-- The other threads have none, -/
theorem L_of_ne (g : GSem nD τ sig) (h : g.1.2 ≠ .tc) : L g = ∅ := if_neg h
/-- the main thread's all have a level. -/
theorem L_tc (c : Dev nD) (sm : SemLoc sig) : L ((c : Thread nD τ), sm) = {()} := if_pos rfl

/-- What is owed is owed to a semaphore of a partner that the list names. -/
theorem owL_pos (l : List (Bool × SemLoc sig)) (c : Dev nD) (g : GSem nD τ sig) (u : Unit) (h : 0 < owL l c g u) :
    ∃ p ∈ l, g = cell (pt p.1 c) p.2 := by
  induction l with
  | nil => exact absurd h (Nat.lt_irrefl 0)
  | cons p l ih =>
    rw [show owL (p :: l) c = owL l c + tallyAt (cell (pt p.1 c) p.2) () (wt p.2) from rfl, Pi.add_apply, Finsupp.add_apply, tallyAt_apply] at h
    by_cases hg : g = cell (pt p.1 c) p.2 ∧ u = ()
    · exact ⟨p, List.mem_cons_self .., hg.1⟩
    · rw [if_neg hg, Nat.add_zero] at h
      obtain ⟨p', hp', e⟩ := ih h
      exact ⟨p', List.mem_cons_of_mem _ hp', e⟩

/-- A device may wait on a semaphore below everything it still owes. -/
theorem mayWait (c : Dev nD) (n : ℕ) (sm : SemLoc sig) (h : ∀ p ∈ stepL.drop n, lvS sm < lvS p.2) :
    (levAts L lv : sProp 𝕄) ⊢ MayWait (c : Thread nD τ) sm () (ow n c) :=
  MayOwe.of_cut (L := L) (lev := lv) (lvS sm)
    (fun p hp => by rw [Finset.mem_singleton.mp hp, L_tc]; exact Finset.mem_singleton_self _)
    (fun g u hg => by
      obtain ⟨p, -, rfl⟩ := owL_pos _ _ _ _ hg
      rw [L_tc]; exact Finset.mem_singleton_self _)
    (fun p hp => by rw [Finset.mem_singleton.mp hp]; exact le_rfl)
    (fun g u hg => by
      obtain ⟨p, hp, rfl⟩ := owL_pos _ _ _ _ hg
      exact h p hp)

/-- How many raises of a list go to semaphore `sm`. -/
def cnt (l : List (Bool × SemLoc sig)) (sm : SemLoc sig) : ℕ := l.countP fun p => p.2 = sm

/-- Different devices or semaphores are different cells. -/
theorem cell_inj {c d : Dev nD} {sm sm' : SemLoc sig} (h : cell c sm = cell d sm') : c = d ∧ sm = sm' :=
  ⟨congrArg (fun g : GSem nD τ sig => g.1.1) h, congrArg Prod.snd h⟩

/-- Over all devices, what is owed to `c`'s semaphore `sm` is its weight as often as it occurs. -/
theorem owL_sum (l : List (Bool × SemLoc sig)) (c : Dev nD) (sm : SemLoc sig) :
    (∑ d : Dev nD, owL l d (cell c sm) ()) = cnt l sm * wt sm := by
  induction l with
  | nil => rw [cnt, List.countP_nil, Nat.zero_mul]; exact Finset.sum_eq_zero fun _ _ => rfl
  | cons p l ih =>
    have e (d : Dev nD) : owL (p :: l) d (cell c sm) () = owL l d (cell c sm) () + (if d = pt p.1 c then (if p.2 = sm then wt sm else 0) else 0) := by
      rw [show owL (p :: l) d = owL l d + tallyAt (cell (pt p.1 d) p.2) () (wt p.2) from rfl, Pi.add_apply, Finsupp.add_apply, tallyAt_apply]
      congr 1
      by_cases hd : d = pt p.1 c
      · subst hd
        rw [pt_pt, if_pos rfl]
        by_cases hs : p.2 = sm
        · rw [hs, if_pos ⟨rfl, rfl⟩, if_pos rfl]
        · rw [if_neg hs, if_neg fun h => hs (cell_inj h.1).2.symm]
      · rw [if_neg hd, if_neg fun h => hd (by rw [(cell_inj h.1).1, pt_pt])]
    rw [Finset.sum_congr rfl fun d _ => e d, Finset.sum_add_distrib, ih, Finset.sum_ite_eq' Finset.univ (pt p.1 c), if_pos (Finset.mem_univ _)]
    unfold cnt
    rw [List.countP_cons, Nat.add_mul]
    congr 1
    by_cases hs : p.2 = sm
    · rw [if_pos hs, if_pos (by simpa using hs), Nat.one_mul]
    · rw [if_neg hs, if_neg (by simpa using hs), Nat.zero_mul]

end Cert.KernelIdeal.Sum

end
-- ==== Proof.KernelIdeal.Rules.lean ====
/-
# One step at a time

A rule for each kind of operation the kernel makes: a local copy, a transfer to a partner, a signal, the waits, and the
addition of a buffer to a slot.
-/
module

public import proofs.«01_k».proof.Proof.KernelIdeal.Schedule
public import Idealize.ShloMosaic.Lib.Tactic

@[expose] public section

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Idealize.ShloMosaic.Ring

variable {F : FTy → Type} [FloatOps F]

local notation "𝕄" => MT nD τ sig Unit (Elt F) ℕ UU ℕ

/-- Where the launch's ghost state lies. -/
abbrev EP : Emb (UR sig nD τ) (MT nD τ sig Unit (Elt F) ℕ UU ℕ) := embL
/-- Where the protocol's ghost state lies. -/
abbrev ER : Emb UB (MT nD τ sig Unit (Elt F) ℕ UU ℕ) := embR
/-- The kernel is proved to end without variants: it has no loop. -/
abbrev 𝒱₀ : Variants := Variants.none

variable (m : (ℓ : Loc nD τ sig) → Buf (Elt F) ℓ) (K : Dev nD × SemLoc sig → ℕ)

/-! ## What every step has at hand -/

/-- Every cell's invariant, that every cell's round 0 is reached, and the levels. -/
def env : sProp 𝕄 :=
  iprop((bigSep Finset.univ fun p : Dev nD × SemLoc sig => cellInv ER (Rd m) (K p) (cell p.1 p.2))
    ∗ (bigSep Finset.univ fun p : Dev nD × SemLoc sig => reached ER (cell p.1 p.2) 0) ∗ levAts L lv)

/-- What every step has at hand is never used up. -/
instance env_persistent : BI.Persistent (env m K) := by unfold env; infer_instance

/-- It has each semaphore's invariant, -/
theorem env_inv (c : Dev nD) (sm : SemLoc sig) : env m K ⊢ cellInv ER (Rd m) (K (c, sm)) (cell c sm) := by
  unfold env
  iintro ⟨H, -, -⟩
  iapply (show _ ⊢ cellInv ER (Rd m) (K (c, sm)) (cell c sm) from
    bigSep_elim (Φ := fun p : Dev nD × SemLoc sig => cellInv ER (Rd m) (K p) (cell p.1 p.2)) (Finset.mem_univ (c, sm)))
  iexact H
/-- that each is at least in its first round, -/
theorem env_reached (c : Dev nD) (sm : SemLoc sig) : env m K ⊢ reached ER (cell c sm) 0 := by
  unfold env
  iintro ⟨-, H, -⟩
  iapply (show _ ⊢ (reached ER (cell c sm) 0 : sProp 𝕄) from
    bigSep_elim (Φ := fun p : Dev nD × SemLoc sig => (reached ER (cell p.1 p.2) 0 : sProp 𝕄)) (Finset.mem_univ (c, sm)))
  iexact H
/-- and the levels. -/
theorem env_lev : env m K ⊢ (levAts L lv : sProp 𝕄) := by
  unfold env
  iintro ⟨-, -, H⟩; iexact H

/-- What device `c` owes after its first `n` raises. -/
def Ow (c : Dev nD) (n : ℕ) : sProp 𝕄 := iprop(∃ W, owes (c : Thread nD τ) (ow n c) W)
/-- Device `c` is at the start of round `r` of its DMA semaphore `j` of side `s`. -/
def At (c : Dev nD) (s : Bool) (j : Fin 14) (r : ℕ) : sProp 𝕄 := atPos ER (cell c (.dma (sd s j))) r ∅ 0
/-- Credit for one block on it. -/
def Cr (c : Dev nD) (s : Bool) (j : Fin 14) : sProp 𝕄 := cred (tallyAt (cell c (.dma (sd s j))) () N)
/-- The right to pay for a local copy's semaphore in round `r`. -/
def TkL (c : Dev nD) (s : Bool) (j : Fin 14) (r : ℕ) : sProp 𝕄 := dutyTok ER (cell c (.dma (sd s j))) r true
/-- The rights to pay for both ends of the `i`-th transfer of side `s`. -/
def TkS (c : Dev nD) (s : Bool) (i : Fin 6) : sProp 𝕄 :=
  iprop(dutyTok ER (cell c (.dma (sd s (sn i)))) 0 true ∗ dutyTok ER (cell (pt (dir s i) c) (.dma (sd s (rv i)))) 0 true)

/-! ## The steps -/

variable {α : Type} {Q : α → sProp (MT nD τ sig Unit (Elt F) ℕ UU ℕ)}

/-- Memory that a whole block was written to is held at that block. -/
theorem land_owns {sp : Space} {s : Shape} {e : EltTy} (c : Dev nD) (M : Memref sig .tc sp s e) (f : Buf (Elt F) (M.view.loc (c : Thread nD τ)))
    (X : s.Idx → Elt F e) :
    (M.view.loc (c : Thread nD τ) ↦[M.view.set]{fullShare} (M.view.write (Elt F) f X Finset.univ)) ⊢ (owns (c : Thread nD τ) M fullShare X : sProp 𝕄) := by
  rw [← owns_read, View.read_write_univ]

set_option maxHeartbeats 1000000 in
/-- The `i`-th transfer of side `s`: its source and the place it lands go, the credit to wait for the source comes. -/
theorem step_send (c n : Dev nD) (s : Bool) (i : Fin 6) (b : Bool) (hb : dir s i = b) (j : ℕ) {sp sp' : Space}
    {src src' : Memref sig .tc sp S512x2048 .f32} {dst dst' : Memref sig .tc sp' S512x2048 .f32} {k₁ k₂ : DmaSem sig}
    (hs : src = src') (hd : dst = dst') (hn : n = pt b c) (h₁ : k₁ = sd s (sn i)) (h₂ : k₂ = sd s (rv i))
    (X : Blk F) (q : PosShare TreeShare)
    (hp₁ : owns (c : Thread nD τ) src' q X ⊢ pay m c s (sn i) 0)
    (hp₂ : owns (pt b c : Thread nD τ) dst' fullShare X ⊢ pay m (pt b c) s (rv i) 0)
    (hj : stepL.drop j = (b, SemLoc.dma (sd s (rv i))) :: stepL.drop (j + 1))
    {hsc : dst.view.ref.isScScratch = false} {hsrc : src.view.WordExact} {hdst : dst.view.WordExact}
    {hsem : DmaTarget.Typed (nD := nD) (τ := τ) sp (.dma k₂) (.remote (Dev.tc n : Thread nD τ) dst (.dma k₁) hsc)}
    {k : PUnit → Prog (TpuEff nD τ sig (Elt F) Λ₀ .tc) α} :
    iprop(env m K ∗ owns (c : Thread nD τ) src' q X ∗ some' (pt b c) dst' ∗ TkS c s i ∗ Ow c j)
      ⊢ iprop(((Cr c s (sn i) ∗ Ow c (j + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma k₁) hsc) (.dma k₂) hsrc hdst hsem) k) Q) := by
  subst hb hs hd hn h₁ h₂
  unfold some' Cr TkS Ow
  iintro ⟨#HE, Hsrc, ⟨%Y, Hdst⟩, ⟨Ht₁, Ht₂⟩, ⟨%W, HO⟩⟩ Hk
  ihave Hsrc := (owns_elim (c : Thread nD τ) src q X) $$ Hsrc
  icases Hsrc with ⟨%fs, %hfs, Hsrc⟩
  subst hfs
  ihave Hdst := (owns_elim (pt (dir s i) c : Thread nD τ) dst fullShare Y) $$ Hdst
  icases Hdst with ⟨%fd, -, Hdst⟩
  iapply (Rounds.wp_send_pointsTo 𝒱₀ ER (Rd m) (c : Thread nD τ) none (c' := (pt (dir s i) c : Thread nD τ))
    (κ₁ := K (c, .dma (sd s (sn i)))) (κ₂ := K (pt (dir s i) c, .dma (sd s (rv i))))
    (sS := .dma (sd s (sn i))) (sem := .dma (sd s (rv i))) (r₁ := 0) (r₂ := 0) (d₁ := true) (d₂ := true) (fs := fs) (fd := fd) (q := q)
    (by show true ∈ dut (.dma (sd s (sn i))) 0; rw [dut_dma]; exact Finset.mem_singleton_self _)
    (by show true ∈ dut (.dma (sd s (rv i))) 0; rw [dut_dma]; exact Finset.mem_singleton_self _)
    () () N (credit_eq _) rfl rfl (ow (j + 1) c) (ow_succ j c _ hj) (W := W)
    (by rw [payload_dma, ← owns_read]; exact hp₁)
    (by rw [payload_dma]; exact (land_owns _ _ _ _).trans hp₂)) $$ [Hsrc Hdst Ht₁ Ht₂ HO]
  · isplitr; · iapply (env_inv m K c _); iexact HE
    isplitr; · iapply (env_inv m K (pt (dir s i) c) _); iexact HE
    isplitl [Hsrc]; · iexact Hsrc
    isplitl [Hdst]; · iexact Hdst
    isplitl [HO]; · iexact HO
    isplitl [Ht₁]; · iexact Ht₁
    isplitr; · iapply (env_reached m K c _); iexact HE
    isplitl [Ht₂]; · iexact Ht₂
    iapply (env_reached m K (pt (dir s i) c) _); iexact HE
  iintro ⟨HC, HO⟩
  iapply Hk
  isplitl [HC]; · iexact HC
  iexists W; iexact HO

set_option maxHeartbeats 1000000 in
/-- A local copy: its source and target go, the credit to wait for it comes. -/
theorem step_copy (c : Dev nD) (s : Bool) (j : Fin 14) (r : ℕ) {sp sp' : Space}
    {src src' : Memref sig .tc sp S512x2048 .f32} {dst dst' : Memref sig .tc sp' S512x2048 .f32} {k₁ : DmaSem sig}
    (hs : src = src') (hd : dst = dst') (h₁ : k₁ = sd s j)
    (hdut : dut (.dma (sd s j)) r = {true}) (X : Blk F) (q : PosShare TreeShare)
    (hp : iprop(owns (c : Thread nD τ) dst' fullShare X ∗ owns (c : Thread nD τ) src' q X) ⊢ pay m c s j r)
    {hsrc : src.view.WordExact} {hdst : dst.view.WordExact}
    {hsem : DmaTarget.Typed (nD := nD) (τ := τ) sp (.dma k₁) (.here (p := (c : Thread nD τ).2) dst)}
    {k : PUnit → Prog (TpuEff nD τ sig (Elt F) Λ₀ .tc) α} :
    iprop(env m K ∗ owns (c : Thread nD τ) src' q X ∗ some' c dst' ∗ TkL c s j r ∗ reached ER (cell c (.dma (sd s j))) r)
      ⊢ iprop((Cr c s j -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma k₁) hsrc hdst hsem) k) Q) := by
  subst hs hd h₁
  unfold some' Cr TkL
  iintro ⟨#HE, Hsrc, ⟨%Y, Hdst⟩, Ht, Hr⟩ Hk
  ihave Hsrc := (owns_elim (c : Thread nD τ) src q X) $$ Hsrc
  icases Hsrc with ⟨%fs, %hfs, Hsrc⟩
  subst hfs
  ihave Hdst := (owns_elim (c : Thread nD τ) dst fullShare Y) $$ Hdst
  icases Hdst with ⟨%fd, -, Hdst⟩
  iapply (Rounds.wp_copy_pointsTo 𝒱₀ ER (Rd m) (c : Thread nD τ) none (κ := K (c, .dma (sd s j)))
    (sem := .dma (sd s j)) (r := r) (d := true) (fs := fs) (fd := fd) (q := q)
    (by show true ∈ dut (.dma (sd s j)) r; rw [hdut]; exact Finset.mem_singleton_self _)
    () N (credit_eq _) rfl
    (by rw [payload_dma, ← owns_read (c : Thread nD τ) src q fs]; exact (sep_mono_left (land_owns _ _ _ _)).trans hp)) $$ [Hsrc Hdst Ht Hr]
  · isplitr; · iapply (env_inv m K c _); iexact HE
    isplitl [Hsrc]; · iexact Hsrc
    isplitl [Hdst]; · iexact Hdst
    isplitl [Ht]; · iexact Ht
    iexact Hr
  iintro HC
  iapply Hk
  iexact HC

set_option maxHeartbeats 1000000 in
/-- A wait on a DMA semaphore: the credit goes, what the round delivers comes. -/
theorem step_wait (c : Dev nD) (s : Bool) (j : Fin 14) (r n : ℕ) {sp sp' : Space} {s' : Shape} {e' : EltTy}
    {src : Memref sig .tc sp s' e'} {dst : Memref sig .tc sp' S512x2048 .f32} {k₁ : DmaSem sig} (h₁ : k₁ = sd s j)
    (hdut : dut (.dma (sd s j)) r = {true})
    (hlv : ∀ p ∈ stepL.drop n, lvS (.dma (sd s j)) < lvS p.2)
    (P : sProp (MT nD τ sig Unit (Elt F) ℕ UU ℕ)) (hP : pay m c s j r ⊢ P)
    {hsrc : src.view.WordExact} {hdst : dst.view.WordExact}
    {k : PUnit → Prog (TpuEff nD τ sig (Elt F) Λ₀ .tc) α} :
    iprop(env m K ∗ Cr c s j ∗ At c s j r ∗ Ow c n)
      ⊢ iprop(((At c s j (r + 1) ∗ reached ER (cell c (.dma (sd s j))) (r + 1) ∗ P ∗ Ow c n)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 k₁ src dst hsrc hdst) k) Q) := by
  subst h₁
  unfold Cr At Ow
  iintro ⟨#HE, HC, HA, ⟨%W, HO⟩⟩ Hk
  iapply (Rounds.wp_wait_rest_token 𝒱₀ ER (Rd m) (c : Thread nD τ) none (κ := K (c, .dma (sd s j))) (sm := .dma (sd s j)) (k' := N)
      (fun Kc => (wpE_waitDma2_eq 𝒱₀ (c : Thread nD τ) none Set.univ Kc).trans (by rw [credit_eq])) (Set.mem_univ _) () (O := ow n c) (W := W) (R := r) (m := 0) (T := ∅)
      (by rw [Nat.zero_add, expect_one m c _ _ hdut]; rfl)) $$ [HC HO HA]
  · isplitr; · iapply (env_inv m K c _); iexact HE
    isplitl [HC]; · iexact HC
    isplitl [HO]; · iexact HO
    isplitr; · iapply (mayWait c n _ hlv); iapply (env_lev m K); iexact HE
    iexact HA
  iintro ⟨HO, HA, Hr, Hp⟩
  ihave Hp := (Entails.of_eq (rest_one m c s j r hdut)) $$ Hp
  iapply Hk
  isplitl [HA]; · iexact HA
  isplitl [Hr]; · iexact Hr
  isplitl [Hp]; · iapply hP; iexact Hp
  iexists _; iexact HO

/-- A signal to partner `b`'s barrier, lending it what it will write. -/
theorem step_signal (c n : Dev nD) (b : Bool) (j : ℕ) (hn : n = pt b c)
    (hj : stepL.drop j = (b, SemLoc.reg barS) :: stepL.drop (j + 1))
    {k : PUnit → Prog (TpuEff nD τ sig (Elt F) Λ₀ .tc) α} :
    iprop(env m K ∗ barPay (pt b c) b ∗ dutyTok ER (cell (pt b c) (.reg barS)) 0 b ∗ Ow c j)
      ⊢ iprop((Ow c (j + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS (1#32).toNat) k) Q) := by
  subst hn
  unfold Ow
  iintro ⟨#HE, HP, Ht, ⟨%W, HO⟩⟩ Hk
  iapply (Rounds.wp_signal 𝒱₀ ER (Rd m) (c : Thread nD τ) none (dst := (pt b c : Thread nD τ)) (κ := K (pt b c, .reg barS)) (r := 0)
      (d := b) (by show b ∈ dut (.reg barS) 0; exact Finset.mem_univ _) rfl () (ow (j + 1) c) (ow_succ j c _ hj)) $$ [HP Ht HO]
  · isplitr; · iapply (env_inv m K (pt b c) _); iexact HE
    isplitl [HO]; · iexact HO
    isplitl [Ht]; · iexact Ht
    isplitl [HP]; · iapply (show barPay (pt b c) b ⊢ (Rd (F := F) m).payload (cell (pt b c) (.reg barS)) 0 b from .rfl); iexact HP
    iapply (env_reached m K (pt b c) _); iexact HE
  iintro HO
  iapply Hk
  iexists W; iexact HO

/-- The wait for both partners' signals. -/
theorem step_bar (c : Dev nD) (n : ℕ) (hlv : ∀ p ∈ stepL.drop n, lvS (.reg barS) < lvS p.2)
    {k : PUnit → Prog (TpuEff nD τ sig (Elt F) Λ₀ .tc) α} :
    iprop(env m K ∗ cred (tallyAt (cell c (.reg barS)) () 2) ∗ atPos ER (cell c (.reg barS)) 0 ∅ 0 ∗ Ow c n)
      ⊢ iprop(((atPos ER (cell c (.reg barS)) 1 ∅ 0 ∗ barPay c true ∗ barPay c false ∗ Ow c n)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (2#32).toNat) k) Q) := by
  unfold Ow
  iintro ⟨#HE, HC, HA, ⟨%W, HO⟩⟩ Hk
  iapply (Rounds.wp_wait_rest_token 𝒱₀ ER (Rd m) (c : Thread nD τ) none (κ := K (c, .reg barS))
      (wpE_semWait_eq 𝒱₀ (c : Thread nD τ) none Set.univ) (Set.mem_univ _) () (O := ow n c) (W := W) (R := 0) (m := 0) (T := ∅)
      (by rw [expect_bar]; decide)) $$ [HC HO HA]
  · isplitr; · iapply (env_inv m K c _); iexact HE
    isplitl [HC]; · iexact HC
    isplitl [HO]; · iexact HO
    isplitr; · iapply (mayWait c n _ hlv); iapply (env_lev m K); iexact HE
    iexact HA
  iintro ⟨HO, HA, -, Hp⟩
  ihave Hp := (Entails.of_eq (rest_bar m c)) $$ Hp
  icases Hp with ⟨H1, H2⟩
  iapply Hk
  isplitl [HA]; · iexact HA
  isplitl [H1]; · iexact H1
  isplitl [H2]; · iexact H2
  iexists _; iexact HO

/-! ## Adding a buffer to a slot -/

/-- Slot `i` of a two-slot buffer. -/
abbrev slot (M : Memref sig .tc .vmem S2x512x2048 .f32) (i : Fin 2) : Memref sig .tc .vmem S512x2048 .f32 :=
  (M.slice (vR i) (fun _ => rfl)).squeeze S512x2048 squeezes_S1x512x2048_S512x2048
/-- A block as the one-slot array the kernel loads and stores. -/
def unc (X : Blk F) : Vec F S1x512x2048 .f32 := shapeCast S1x512x2048 X shapeCasts_S512x2048_S1x512x2048

/-- A slot read is the part of the buffer it names, without the leading dimension. -/
theorem slot_read (M : Memref sig .tc .vmem S2x512x2048 .f32) (i : Fin 2) (f : M.view.ty.Contents (Elt F)) :
    (slot M i).view.read (Elt F) f = shapeCast S512x2048 ((M.access (vR i)).read (Elt F) f) shapeCasts_S1x512x2048_S512x2048 := rfl

/-- What a store of a block leaves in a slot is that block. -/
theorem slot_stored (c : Dev nD) (M : Memref sig .tc .vmem S2x512x2048 .f32) (i : Fin 2) (f : M.view.ty.Contents (Elt F)) (Y : Blk F) :
    (M.view.loc (c : Thread nD τ) ↦[(M.access (vR i)).set]{fullShare} ((M.access (vR i)).write (Elt F) f (unc Y) Finset.univ))
      ⊢ (owns (c : Thread nD τ) (slot M i) fullShare Y : sProp 𝕄) := by
  have h : (slot M i).view.read (Elt F) ((M.access (vR i)).write (Elt F) f (unc Y) Finset.univ) = Y := by
    rw [slot_read, View.read_write_univ]; exact shapeCast_shapeCast Y shapeCasts_S512x2048_S1x512x2048 shapeCasts_S1x512x2048_S512x2048
  generalize (M.access (vR i)).write (Elt F) f (unc Y) Finset.univ = f' at h ⊢
  subst h
  rw [owns_read, View.set_reshape]

/-- A slot loaded. -/
theorem step_load_slot (c : Dev nD) (M : Memref sig .tc .vmem S2x512x2048 .f32) (i : Fin 2) {V : Memref sig .tc .vmem S512x2048 .f32} (hV : V = slot M i)
    {off : Fin 3 → ℕ} {inb} (hoff : off = ![i.val, 0, 0]) (q : PosShare TreeShare) (X : Blk F)
    {hl : M.view.LoadsAt (Rect.unit (s := S2x512x2048) off S1x512x2048.size inb).toLoadRect} {k : Vec F S1x512x2048 .f32 → Prog (TpuEff nD τ sig (Elt F) Λ₀ .tc) α} :
    owns (c : Thread nD τ) V q X
      ⊢ iprop((owns (c : Thread nD τ) V q X -∗ wp frame (wpE (defs₀ (F := F)) 𝒱₀ (c : Thread nD τ) none) Set.univ (k (unc X)) Q)
          -∗ wp frame (wpE (defs₀ (F := F)) 𝒱₀ (c : Thread nD τ) none) Set.univ (.op (.load M (Rect.unit (s := S2x512x2048) off S1x512x2048.size inb).toLoadRect hl) k) Q) := by
  subst hV hoff
  iintro H Hk
  ihave H := (owns_elim (c : Thread nD τ) (slot M i) q X) $$ H
  icases H with ⟨%f, %hf, H⟩
  subst hf
  have e : unc ((slot M i).view.read (Elt F) f) = (M.access (vR i)).read (Elt F) f := by
    rw [slot_read, unc, shapeCast_shapeCast]
  rw [e, owns_read, View.set_reshape]
  iapply (wp_load_rect 𝒱₀ (c : Thread nD τ) none Set.univ (m := M) (r := vR i) (q := q) (f := f) (S := (M.access (vR i)).set) subset_rfl) $$ H
  iexact Hk

/-- A slot stored. -/
theorem step_store_slot (c : Dev nD) (M : Memref sig .tc .vmem S2x512x2048 .f32) (i : Fin 2) {V : Memref sig .tc .vmem S512x2048 .f32} (hV : V = slot M i)
    {off : Fin 3 → ℕ} {inb} (hoff : off = ![i.val, 0, 0]) (X Y : Blk F) (w : Vec F S1x512x2048 .f32) (hw : w = unc Y)
    {hx : (M.access (Rect.unit (s := S2x512x2048) off S1x512x2048.size inb)).Stores Finset.univ} {hm : (Finset.univ : Finset (Rect.unit (s := S2x512x2048) off S1x512x2048.size inb).shape.Idx) = Finset.univ ∨ ∀ a, (Rect.unit (s := S2x512x2048) off S1x512x2048.size inb).stride a = 1}
    {k : PUnit → Prog (TpuEff nD τ sig (Elt F) Λ₀ .tc) α} :
    owns (c : Thread nD τ) V fullShare X
      ⊢ iprop((owns (c : Thread nD τ) V fullShare Y -∗ wp frame (wpE (defs₀ (F := F)) 𝒱₀ (c : Thread nD τ) none) Set.univ (k ⟨⟩) Q)
          -∗ wp frame (wpE (defs₀ (F := F)) 𝒱₀ (c : Thread nD τ) none) Set.univ (.op (.store M (Rect.unit (s := S2x512x2048) off S1x512x2048.size inb) w Finset.univ hx hm) k) Q) := by
  subst hw hV hoff
  iintro H Hk
  ihave H := (owns_elim (c : Thread nD τ) (slot M i) fullShare X) $$ H
  icases H with ⟨%f, -, H⟩
  ihave H := (Entails.of_eq (congrArg (fun S => ((slot M i).view.loc (c : Thread nD τ) ↦[S]{fullShare} f : sProp 𝕄)) (View.set_reshape _ _))) $$ H
  iapply (wp_store 𝒱₀ (c : Thread nD τ) none Set.univ (m := M) (r := vR i) (Mk := Finset.univ) (f := f) (S := (M.access (vR i)).set) subset_rfl) $$ H
  iintro H
  iapply Hk
  iapply (slot_stored c M i f Y)
  iexact H

/-- The whole of a block-sized buffer, as the kernel loads it. -/
abbrev r0 : Rect S512x2048 := Rect.unit (s := S512x2048) ![0, 0] S512x2048.size inb_S512x2048_S512x2048_0_0

/-- A block-sized buffer loaded. -/
theorem step_load_buf (c : Dev nD) (M : Memref sig .tc .vmem S512x2048 .f32) (q : PosShare TreeShare) (X : Blk F)
    {hl : M.view.LoadsAt r0.toLoadRect} {k : Blk F → Prog (TpuEff nD τ sig (Elt F) Λ₀ .tc) α} :
    owns (c : Thread nD τ) M q X
      ⊢ iprop((owns (c : Thread nD τ) M q X -∗ wp frame (wpE (defs₀ (F := F)) 𝒱₀ (c : Thread nD τ) none) Set.univ (k X) Q)
          -∗ wp frame (wpE (defs₀ (F := F)) 𝒱₀ (c : Thread nD τ) none) Set.univ (.op (.load M r0.toLoadRect hl) k) Q) := by
  iintro H Hk
  ihave H := (owns_elim (c : Thread nD τ) M q X) $$ H
  icases H with ⟨%f, %hf, H⟩
  subst hf
  have e : M.view.read (Elt F) f = (M.access r0).read (Elt F) f := by
    funext j
    refine congrArg (M.view.read (Elt F) f) (show j = r0.emb j from ?_)
    funext a
    refine Fin.ext ?_
    rw [ValueKit.rect_emb_unit_val]
    fin_cases a <;> simp
  rw [owns_read, e]
  iapply (wp_load_rect 𝒱₀ (c : Thread nD τ) none Set.univ (m := M) (r := r0) (q := q) (f := f) (S := M.view.set) (View.set_slice_subset _ _)) $$ H
  iexact Hk

/-- What the kernel stores back is the sum. -/
theorem pay1_eq (X Z : Blk F) : k0_pay1 (unc X) Z = unc (ad X Z) := by
  show shapeCast _ (addf (F := F) (shapeCast _ (shapeCast _ X _) _) Z) _ = _
  rw [shapeCast_shapeCast]; rfl

/-- A slot with a buffer added to it: the slot loaded, the buffer loaded, the slot loaded once more and stored. -/
theorem step_add (c : Dev nD) (M : Memref sig .tc .vmem S2x512x2048 .f32) (i : Fin 2) (B : Memref sig .tc .vmem S512x2048 .f32)
    {V B' : Memref sig .tc .vmem S512x2048 .f32} (hV : V = slot M i) (hB : B' = B) {off : Fin 3 → ℕ} {inb} (hoff : off = ![i.val, 0, 0]) (X Z : Blk F)
    (w : Vec F S1x512x2048 .f32 → Blk F → Vec F S1x512x2048 .f32) (hw : w = k0_pay1)
    {hl : M.view.LoadsAt (Rect.unit (s := S2x512x2048) off S1x512x2048.size inb).toLoadRect} {hl' : M.view.LoadsAt (Rect.unit (s := S2x512x2048) off S1x512x2048.size inb).toLoadRect} {hb : B.view.LoadsAt r0.toLoadRect}
    {hx : (M.access (Rect.unit (s := S2x512x2048) off S1x512x2048.size inb)).Stores Finset.univ} {hm : (Finset.univ : Finset (Rect.unit (s := S2x512x2048) off S1x512x2048.size inb).shape.Idx) = Finset.univ ∨ ∀ a, (Rect.unit (s := S2x512x2048) off S1x512x2048.size inb).stride a = 1}
    {k : PUnit → Prog (TpuEff nD τ sig (Elt F) Λ₀ .tc) α} :
    iprop(owns (c : Thread nD τ) V fullShare X ∗ owns (c : Thread nD τ) B' fullShare Z)
      ⊢ iprop(((owns (c : Thread nD τ) V fullShare (ad X Z) ∗ owns (c : Thread nD τ) B' fullShare Z)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load M (Rect.unit (s := S2x512x2048) off S1x512x2048.size inb).toLoadRect hl) fun v => .op (.load B r0.toLoadRect hb) fun z => .op (.load M (Rect.unit (s := S2x512x2048) off S1x512x2048.size inb).toLoadRect hl') fun _ =>
                .op (.store M (Rect.unit (s := S2x512x2048) off S1x512x2048.size inb) (w v z) Finset.univ hx hm) k) Q) := by
  subst hw hV hB hoff
  iintro ⟨HV, HB⟩ Hk
  iapply (step_load_slot c M i rfl rfl fullShare X) $$ HV
  iintro HV
  iapply (step_load_buf c B' fullShare Z) $$ HB
  iintro HB
  iapply (step_load_slot c M i rfl rfl fullShare X) $$ HV
  iintro HV
  iapply (step_store_slot c M i rfl rfl X (ad X Z) _ (pay1_eq X Z)) $$ HV
  iintro HV
  iapply Hk
  isplitl [HV]; · iexact HV
  iexact HB

end Cert.KernelIdeal.Sum

end
-- ==== Proof.KernelIdeal.Stretches.lean ====
/-
# The kernel's body, stretch by stretch

What each stretch of the body takes and leaves, device by device.
-/
module

public import proofs.«01_k».proof.Proof.KernelIdeal.Rules
public import proofs.«01_k».proof.Proof.Gen.KernelIdeal.Skeleton

@[expose] public section

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Idealize.ShloMosaic.Ring

variable {F : FTy → Type} [FloatOps F]

local notation "𝕄" => MT nD τ sig Unit (Elt F) ℕ UU ℕ

variable (m : (ℓ : Loc nD τ sig) → Buf (Elt F) ℓ) (K : Dev nD × SemLoc sig → ℕ)

/-- A stretch of the body at the kernel's own buffers and semaphores. -/
abbrev app {β : Type*}
    (p : (arg0 : Memref sig .tc .hbm S1x1x4096x2048 .f32) → arg0.IsWhole → (arg1 : Memref sig .tc .hbm S4096x2048 .f32) → arg1.IsWhole →
      (arg2 : Memref sig .tc .vmem S2x512x2048 .f32) → arg2.IsWhole → (arg3 : Memref sig .tc .vmem S2x512x2048 .f32) → arg3.IsWhole →
      (arg4 : Memref sig .tc .vmem S512x2048 .f32) → arg4.IsWhole → (arg5 : Memref sig .tc .vmem S512x2048 .f32) → arg5.IsWhole →
      (arg6 : Memref sig .tc .vmem S512x2048 .f32) → arg6.IsWhole → (arg7 : Memref sig .tc .vmem S512x2048 .f32) → arg7.IsWhole →
      (arg8 : Memref sig .tc .vmem S512x2048 .f32) → arg8.IsWhole → (arg9 : Memref sig .tc .vmem S512x2048 .f32) → arg9.IsWhole →
      DmaSems sig S6 → DmaSems sig S6 → DmaSems sig S6 → DmaSems sig S6 → DmaSems sig S_ → DmaSems sig S_ → DmaSems sig S_ → DmaSems sig S_ → β) : β :=
  p (Memref.whole main_arg0) (Memref.isWhole_whole _) (Memref.whole main_v1) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    cc0_scratch8 cc0_scratch9 cc0_scratch10 cc0_scratch11 cc0_scratch12 cc0_scratch13 cc0_scratch14 cc0_scratch15

/-! ## Where each transfer lands is what its receiver waits for -/

/-- The first transfer lands in the partner's slot 0, -/
theorem rcv0 (s : Bool) (c : Dev nD) : owns (pt s c : Thread nD τ) (vM s 0) fullShare (xb m c (bk s (pt (!s) (pt s c)))) ⊢ pay m (pt s c) s (rv 0) 0 :=
  Entails.of_eq (by show _ = owns _ _ _ (land0 m s (pt s c)); unfold land0; rw [pt_pt])
/-- the second in its slot 1, -/
theorem rcv1 (s : Bool) (c : Dev nD) : owns (pt s c : Thread nD τ) (vM s 1) fullShare (xb m c (bk s (pt s c))) ⊢ pay m (pt s c) s (rv 1) 0 :=
  Entails.of_eq (by show _ = owns _ _ _ (land1 m s (pt s c)); unfold land1; rw [pt_pt])
/-- the third, of the partial sums, in the other partner's second landing buffer, -/
theorem rcv2 (s : Bool) (c : Dev nD) : owns (pt (!s) c : Thread nD τ) (rM s) fullShare (par m s c) ⊢ pay m (pt (!s) c) s (rv 2) 0 :=
  Entails.of_eq (by show _ = owns _ _ _ (par m s (pt (!s) (pt (!s) c))); rw [pt_pt])
/-- the fourth, of the own block's sum, in the other partner's result, -/
theorem rcv3 (s : Bool) (c : Dev nD) : owns (pt (!s) c : Thread nD τ) (oM (bk s c)) fullShare (fin m s c) ⊢ pay m (pt (!s) c) s (rv 3) 0 :=
  Entails.of_eq (by show _ = oO m (pt (!s) c) s (pt (!s) (pt (!s) c)); rw [pt_pt])
/-- the fifth, of the same, in the partner's result, -/
theorem rcv4 (s : Bool) (c : Dev nD) : owns (pt s c : Thread nD τ) (oM (bk s c)) fullShare (fin m s c) ⊢ pay m (pt s c) s (rv 4) 0 :=
  Entails.of_eq (by show _ = oO m (pt s c) s (pt s (pt s c)); rw [pt_pt])
/-- and the sixth passes the other partner's block on to the partner's result. -/
theorem rcv5 (s : Bool) (c : Dev nD) :
    owns (pt s c : Thread nD τ) (oM (bk s (pt (!s) c))) fullShare (fin m s (pt (!s) c)) ⊢ pay m (pt s c) s (rv 5) 0 :=
  Entails.of_eq (by show _ = oO m (pt s c) s (pt (!s) (pt s (pt s c))); rw [pt_pt])

/-- A partner's sum added to the own one is the total. -/
theorem fin_intro (s : Bool) (c : Dev nD) (M : Memref sig .tc .vmem S512x2048 .f32) :
    owns (c : Thread nD τ) M fullShare (ad (own m s c) (par m s (pt (!s) c))) ⊢ (owns (c : Thread nD τ) M fullShare (fin m s c) : sProp 𝕄) :=
  BI.Entails.refl _

/-! ## The stretches -/

set_option maxHeartbeats 4000000 in
/-- The four local copies start; both partners are told the landing places are free and the device waits to hear the same. -/
theorem part2 (c : Dev nD) (v2 v5 v6 v7 v15 : BitVec 32) {Kt : (Σ' (v54 : BitVec 32), BitVec 32) → sProp (MT nD τ sig Unit (Elt F) ℕ UU ℕ)} :
    iprop(env m K ∗ xO m c (bk true (pt (!true) c)) ∗ some' c (wM true 0) ∗ TkL c true 12 0 ∗ xO m c (bk false (pt (!false) c)) ∗ some' c (wM false 0)
      ∗ TkL c false 12 0 ∗ xO m c (bk true c) ∗ some' c (wM true 1) ∗ TkL c true 13 0 ∗ xO m c (bk false c) ∗ some' c (wM false 1) ∗ TkL c false 13 0
      ∗ barPay (pt true c) true ∗ dutyTok ER (cell (pt true c) (.reg barS)) 0 true ∗ barPay (pt false c) false
      ∗ dutyTok ER (cell (pt false c) (.reg barS)) 0 false ∗ cred (tallyAt (cell c (.reg barS)) () 2) ∗ atPos ER (cell c (.reg barS)) 0 ∅ 0 ∗ Ow c 0
      ∗ (∀ r, ((Cr c true 12 ∗ Cr c false 12 ∗ Cr c true 13 ∗ Cr c false 13 ∗ atPos ER (cell c (.reg barS)) 1 ∅ 0 ∗ barPay c true ∗ barPay c false
         ∗ Ow c 2) -∗ Kt r)))
      ⊢ wp frame (wpE (defs₀ (F := F)) 𝒱₀ (c : Thread nD τ) none) Set.univ (app k0_part2 c v2 v5 v6 v7 v15) Kt := by
  iintro ⟨#Hg, xt1, dwt0, Lt12, xf1, dwf0, Lf12, xt0, dwt1, Lt13, xf0, dwf1, Lf13, Bt, TBt, Bf, TBf, CB, AB, HO, Hk⟩
  rw [k0_part2_eq_skeleton]; unfold app
  unfold k0_part2_skel
  simp only [semSignalWord, semWaitWord, Prog.lift, Prog.bind_op, Prog.bind_ret, Prog.pure_eq_ret]
  iapply (step_copy m K c true 12 0 (src' := (xM (bk true (pt (!true) c)))) (dst' := (wM true 0)) (x_slice (k0_off1_inb c) (bk true (pt (!true) c)) (off1_eq c)) rfl rfl (dut_dma _) (xb m c (bk true (pt (!true) c))) fullShare (BI.Entails.refl _)) $$ [xt1 dwt0 Lt12]
  · isplitr; · iexact Hg
    isplitl [xt1]; · iexact xt1
    isplitl [dwt0]; · iexact dwt0
    isplitl [Lt12]; · iexact Lt12
    iapply env_reached; iexact Hg
  iintro Ct12
  iapply (step_copy m K c false 12 0 (src' := (xM (bk false (pt (!false) c)))) (dst' := (wM false 0)) (x_slice (k0_off2_inb c) (bk false (pt (!false) c)) (off2_eq c)) rfl rfl (dut_dma _) (xb m c (bk false (pt (!false) c))) fullShare (BI.Entails.refl _)) $$ [xf1 dwf0 Lf12]
  · isplitr; · iexact Hg
    isplitl [xf1]; · iexact xf1
    isplitl [dwf0]; · iexact dwf0
    isplitl [Lf12]; · iexact Lf12
    iapply env_reached; iexact Hg
  iintro Cf12
  iapply (step_copy m K c true 13 0 (src' := (xM (bk true c))) (dst' := (wM true 1)) (x_slice (k0_off3_inb c) (bk true c) (off3_eq c)) rfl rfl (dut_dma _) (xb m c (bk true c)) fullShare (BI.Entails.refl _)) $$ [xt0 dwt1 Lt13]
  · isplitr; · iexact Hg
    isplitl [xt0]; · iexact xt0
    isplitl [dwt1]; · iexact dwt1
    isplitl [Lt13]; · iexact Lt13
    iapply env_reached; iexact Hg
  iintro Ct13
  iapply (step_copy m K c false 13 0 (src' := (xM (bk false c))) (dst' := (wM false 1)) (x_slice (k0_off4_inb c) (bk false c) (off4_eq c)) rfl rfl (dut_dma _) (xb m c (bk false c)) fullShare (BI.Entails.refl _)) $$ [xf0 dwf1 Lf13]
  · isplitr; · iexact Hg
    isplitl [xf0]; · iexact xf0
    isplitl [dwf1]; · iexact dwf1
    isplitl [Lf13]; · iexact Lf13
    iapply env_reached; iexact Hg
  iintro Cf13
  iapply (step_signal m K c _ true 0 (dev1_eq c) rfl) $$ [Bt TBt HO]
  · isplitr; · iexact Hg
    isplitl [Bt]; · iexact Bt
    isplitl [TBt]; · iexact TBt
    iexact HO
  iintro HO
  iapply (step_signal m K c _ false 1 (dev2_eq c) rfl) $$ [Bf TBf HO]
  · isplitr; · iexact Hg
    isplitl [Bf]; · iexact Bf
    isplitl [TBf]; · iexact TBf
    iexact HO
  iintro HO
  iapply (step_bar m K c 2 (by decide)) $$ [CB AB HO]
  · isplitr; · iexact Hg
    isplitl [CB]; · iexact CB
    isplitl [AB]; · iexact AB
    iexact HO
  iintro ⟨AB, Bt, Bf, HO⟩
  rw [wp_ret]; imodintro
  iapply Hk
  isplitl [Ct12]; · iexact Ct12
  isplitl [Cf12]; · iexact Cf12
  isplitl [Ct13]; · iexact Ct13
  isplitl [Cf13]; · iexact Cf13
  isplitl [AB]; · iexact AB
  isplitl [Bt]; · iexact Bt
  isplitl [Bf]; · iexact Bf
  iexact HO

set_option maxHeartbeats 4000000 in
/-- The first transfer of either side starts. -/
theorem part3 (c : Dev nD) (v2 v5 v6 v7 v54 v55 : BitVec 32) {Kt : (PUnit) → sProp (MT nD τ sig Unit (Elt F) ℕ UU ℕ)} :
    iprop(env m K ∗ xO m c (bk true (pt (!true) (pt true c))) ∗ some' (pt true c) (vM true 0) ∗ TkS c true 0
      ∗ xO m c (bk false (pt (!false) (pt false c))) ∗ some' (pt false c) (vM false 0) ∗ TkS c false 0 ∗ Ow c 2
      ∗ ((Cr c true 0 ∗ Cr c false 0 ∗ Ow c 4) -∗ Kt ⟨⟩))
      ⊢ wp frame (wpE (defs₀ (F := F)) 𝒱₀ (c : Thread nD τ) none) Set.univ (app k0_part3 c v2 v5 v6 v7 v54 v55) Kt := by
  iintro ⟨#Hg, xt3, dvt0, Tt0, xf3, dvf0, Tf0, HO, Hk⟩
  rw [k0_part3_eq_skeleton]; unfold app
  unfold k0_part3_skel
  simp only [semSignalWord, semWaitWord, Prog.lift, Prog.bind_op, Prog.bind_ret, Prog.pure_eq_ret]
  iapply (step_send m K c _ true 0 true rfl 2 (src' := (xM (bk true (pt (!true) (pt true c))))) (dst' := (vM true 0)) ((x_slice (k0_off5_inb c) (bk true (pt true (pt (!true) c))) (off5_eq c)).trans (congrArg (fun d => xM (bk true d)) (pt_comm (!true) c))) rfl (dev3_eq c) rfl rfl (xb m c (bk true (pt (!true) (pt true c)))) fullShare (BI.Entails.refl _) (rcv0 m true c) rfl) $$ [xt3 dvt0 Tt0 HO]
  · isplitr; · iexact Hg
    isplitl [xt3]; · iexact xt3
    isplitl [dvt0]; · iexact dvt0
    isplitl [Tt0]; · iexact Tt0
    iexact HO
  iintro ⟨Ct0, HO⟩
  iapply (step_send m K c _ false 0 false rfl 3 (src' := (xM (bk false (pt (!false) (pt false c))))) (dst' := (vM false 0)) ((x_slice (k0_off6_inb c) (bk false (pt false (pt (!false) c))) (off6_eq c)).trans (congrArg (fun d => xM (bk false d)) (pt_comm (!false) c))) rfl (dev4_eq c) rfl rfl (xb m c (bk false (pt (!false) (pt false c)))) fullShare (BI.Entails.refl _) (rcv0 m false c) rfl) $$ [xf3 dvf0 Tf0 HO]
  · isplitr; · iexact Hg
    isplitl [xf3]; · iexact xf3
    isplitl [dvf0]; · iexact dvf0
    isplitl [Tf0]; · iexact Tf0
    iexact HO
  iintro ⟨Cf0, HO⟩
  rw [wp_ret]; imodintro
  iapply Hk
  isplitl [Ct0]; · iexact Ct0
  isplitl [Cf0]; · iexact Cf0
  iexact HO

set_option maxHeartbeats 4000000 in
/-- The second transfer of either side starts; the first block sent is free again. -/
theorem part4 (c : Dev nD) (v2 v5 v6 v7 : BitVec 32) {Kt : (PUnit) → sProp (MT nD τ sig Unit (Elt F) ℕ UU ℕ)} :
    iprop(env m K ∗ xO m c (bk true (pt true c)) ∗ some' (pt true c) (vM true 1) ∗ TkS c true 1 ∗ xO m c (bk false (pt false c))
      ∗ some' (pt false c) (vM false 1) ∗ TkS c false 1 ∗ Cr c true 0 ∗ At c true 0 0 ∗ Ow c 4
      ∗ ((Cr c true 1 ∗ Cr c false 1 ∗ At c true 0 1 ∗ xO m c (bk true (pt (!true) (pt true c))) ∗ Ow c 6) -∗ Kt ⟨⟩))
      ⊢ wp frame (wpE (defs₀ (F := F)) 𝒱₀ (c : Thread nD τ) none) Set.univ (app k0_part4 c v2 v5 v6 v7) Kt := by
  iintro ⟨#Hg, xt2, dvt1, Tt1, xf2, dvf1, Tf1, Ct0, At0, HO, Hk⟩
  rw [k0_part4_eq_skeleton]; unfold app
  unfold k0_part4_skel
  simp only [semSignalWord, semWaitWord, Prog.lift, Prog.bind_op, Prog.bind_ret, Prog.pure_eq_ret]
  iapply (step_send m K c _ true 1 true rfl 4 (src' := (xM (bk true (pt true c)))) (dst' := (vM true 1)) (x_slice (k0_off7_inb c) (bk true (pt true c)) (off7_eq c)) rfl (dev5_eq c) rfl rfl (xb m c (bk true (pt true c))) fullShare (BI.Entails.refl _) (rcv1 m true c) rfl) $$ [xt2 dvt1 Tt1 HO]
  · isplitr; · iexact Hg
    isplitl [xt2]; · iexact xt2
    isplitl [dvt1]; · iexact dvt1
    isplitl [Tt1]; · iexact Tt1
    iexact HO
  iintro ⟨Ct1, HO⟩
  iapply (step_send m K c _ false 1 false rfl 5 (src' := (xM (bk false (pt false c)))) (dst' := (vM false 1)) (x_slice (k0_off8_inb c) (bk false (pt false c)) (off8_eq c)) rfl (dev6_eq c) rfl rfl (xb m c (bk false (pt false c))) fullShare (BI.Entails.refl _) (rcv1 m false c) rfl) $$ [xf2 dvf1 Tf1 HO]
  · isplitr; · iexact Hg
    isplitl [xf2]; · iexact xf2
    isplitl [dvf1]; · iexact dvf1
    isplitl [Tf1]; · iexact Tf1
    iexact HO
  iintro ⟨Cf1, HO⟩
  iapply (step_wait m K c true 0 0 6 rfl (dut_dma _) (by decide) (xO m c (bk true (pt (!true) (pt true c)))) (BI.Entails.refl _)) $$ [Ct0 At0 HO]
  · isplitr; · iexact Hg
    isplitl [Ct0]; · iexact Ct0
    isplitl [At0]; · iexact At0
    iexact HO
  iintro ⟨At0, -, xt3, HO⟩
  rw [wp_ret]; imodintro
  iapply Hk
  isplitl [Ct1]; · iexact Ct1
  isplitl [Cf1]; · iexact Cf1
  isplitl [At0]; · iexact At0
  isplitl [xt3]; · iexact xt3
  iexact HO

set_option maxHeartbeats 4000000 in
/-- The first block has landed; the own block is added to it and the sum sent on. -/
theorem part5 (c : Dev nD) (v2 v7 : BitVec 32) {Kt : (PUnit) → sProp (MT nD τ sig Unit (Elt F) ℕ UU ℕ)} :
    iprop(env m K ∗ Cr c true 6 ∗ At c true 6 0 ∗ Cr c true 12 ∗ At c true 12 0 ∗ some' (pt (!true) c) (rM true) ∗ TkS c true 2 ∗ Cr c false 0
      ∗ At c false 0 0 ∗ Ow c 6
      ∗ ((At c true 6 1 ∗ At c true 12 1 ∗ reached ER (cell c (.dma (sd true 12))) 1
         ∗ owns (c : Thread nD τ) (wM true 0) fullShare (xb m c (bk true (pt (!true) c))) ∗ xO m c (bk true (pt (!true) c)) ∗ Cr c true 2
         ∗ At c false 0 1 ∗ xO m c (bk false (pt (!false) (pt false c))) ∗ Ow c 7) -∗ Kt ⟨⟩))
      ⊢ wp frame (wpE (defs₀ (F := F)) 𝒱₀ (c : Thread nD τ) none) Set.univ (app k0_part5 c v2 v7) Kt := by
  iintro ⟨#Hg, Ct6, At6, Ct12, At12, drt, Tt2, Cf0, Af0, HO, Hk⟩
  rw [k0_part5_eq_skeleton]; unfold app
  unfold k0_part5_skel
  simp only [semSignalWord, semWaitWord, Prog.lift, Prog.bind_op, Prog.bind_ret, Prog.pure_eq_ret]
  iapply (step_wait m K c true 6 0 6 rfl (dut_dma _) (by decide) (owns (c : Thread nD τ) (vM true 0) fullShare (land0 m true c)) (BI.Entails.refl _)) $$ [Ct6 At6 HO]
  · isplitr; · iexact Hg
    isplitl [Ct6]; · iexact Ct6
    isplitl [At6]; · iexact At6
    iexact HO
  iintro ⟨At6, -, vt0, HO⟩
  iapply (step_wait m K c true 12 0 6 rfl (dut_dma _) (by decide) iprop(owns (c : Thread nD τ) (wM true 0) fullShare (xb m c (bk true (pt (!true) c))) ∗ xO m c (bk true (pt (!true) c))) (BI.Entails.refl _)) $$ [Ct12 At12 HO]
  · isplitr; · iexact Hg
    isplitl [Ct12]; · iexact Ct12
    isplitl [At12]; · iexact At12
    iexact HO
  iintro ⟨At12, #Rt12, ⟨wt0, xt1⟩, HO⟩
  iapply (step_add c (Memref.whole cc0_scratch0) 0 _ (V := (vM true 0)) (B' := (wM true 0)) rfl rfl rfl (land0 m true c) (xb m c (bk true (pt (!true) c))) _ rfl) $$ [vt0 wt0]
  · isplitl [vt0]; · iexact vt0
    iexact wt0
  iintro ⟨vt0, wt0⟩
  iapply (step_send m K c _ true 2 (!true) rfl 6 (src' := (vM true 0)) (dst' := (rM true)) rfl rfl (dev7_eq c) rfl rfl (par m true c) fullShare (BI.Entails.refl _) (rcv2 m true c) rfl) $$ [vt0 drt Tt2 HO]
  · isplitr; · iexact Hg
    isplitl [vt0]; · iexact vt0
    isplitl [drt]; · iexact drt
    isplitl [Tt2]; · iexact Tt2
    iexact HO
  iintro ⟨Ct2, HO⟩
  iapply (step_wait m K c false 0 0 7 rfl (dut_dma _) (by decide) (xO m c (bk false (pt (!false) (pt false c)))) (BI.Entails.refl _)) $$ [Cf0 Af0 HO]
  · isplitr; · iexact Hg
    isplitl [Cf0]; · iexact Cf0
    isplitl [Af0]; · iexact Af0
    iexact HO
  iintro ⟨Af0, -, xf3, HO⟩
  rw [wp_ret]; imodintro
  iapply Hk
  isplitl [At6]; · iexact At6
  isplitl [At12]; · iexact At12
  isplitr; · iexact Rt12
  isplitl [wt0]; · iexact wt0
  isplitl [xt1]; · iexact xt1
  isplitl [Ct2]; · iexact Ct2
  isplitl [Af0]; · iexact Af0
  isplitl [xf3]; · iexact xf3
  iexact HO

set_option maxHeartbeats 4000000 in
/-- The same on the second side, up to the sum. -/
theorem part6 (c : Dev nD) (v2 v5 v6 v7 : BitVec 32) {Kt : (PUnit) → sProp (MT nD τ sig Unit (Elt F) ℕ UU ℕ)} :
    iprop(env m K ∗ Cr c false 6 ∗ At c false 6 0 ∗ Cr c false 12 ∗ At c false 12 0 ∗ Ow c 7
      ∗ ((At c false 6 1 ∗ At c false 12 1 ∗ reached ER (cell c (.dma (sd false 12))) 1
         ∗ owns (c : Thread nD τ) (wM false 0) fullShare (xb m c (bk false (pt (!false) c))) ∗ xO m c (bk false (pt (!false) c))
         ∗ owns (c : Thread nD τ) (vM false 0) fullShare (par m false c) ∗ Ow c 7) -∗ Kt ⟨⟩))
      ⊢ wp frame (wpE (defs₀ (F := F)) 𝒱₀ (c : Thread nD τ) none) Set.univ (app k0_part6 c v2 v5 v6 v7) Kt := by
  iintro ⟨#Hg, Cf6, Af6, Cf12, Af12, HO, Hk⟩
  rw [k0_part6_eq_skeleton]; unfold app
  unfold k0_part6_skel
  simp only [semSignalWord, semWaitWord, Prog.lift, Prog.bind_op, Prog.bind_ret, Prog.pure_eq_ret]
  iapply (step_wait m K c false 6 0 7 rfl (dut_dma _) (by decide) (owns (c : Thread nD τ) (vM false 0) fullShare (land0 m false c)) (BI.Entails.refl _)) $$ [Cf6 Af6 HO]
  · isplitr; · iexact Hg
    isplitl [Cf6]; · iexact Cf6
    isplitl [Af6]; · iexact Af6
    iexact HO
  iintro ⟨Af6, -, vf0, HO⟩
  iapply (step_wait m K c false 12 0 7 rfl (dut_dma _) (by decide) iprop(owns (c : Thread nD τ) (wM false 0) fullShare (xb m c (bk false (pt (!false) c))) ∗ xO m c (bk false (pt (!false) c))) (BI.Entails.refl _)) $$ [Cf12 Af12 HO]
  · isplitr; · iexact Hg
    isplitl [Cf12]; · iexact Cf12
    isplitl [Af12]; · iexact Af12
    iexact HO
  iintro ⟨Af12, #Rf12, ⟨wf0, xf1⟩, HO⟩
  iapply (step_add c (Memref.whole cc0_scratch1) 0 _ (V := (vM false 0)) (B' := (wM false 0)) rfl rfl rfl (land0 m false c) (xb m c (bk false (pt (!false) c))) _ rfl) $$ [vf0 wf0]
  · isplitl [vf0]; · iexact vf0
    iexact wf0
  iintro ⟨vf0, wf0⟩
  rw [wp_ret]; imodintro
  iapply Hk
  isplitl [Af6]; · iexact Af6
  isplitl [Af12]; · iexact Af12
  isplitr; · iexact Rf12
  isplitl [wf0]; · iexact wf0
  isplitl [xf1]; · iexact xf1
  isplitl [vf0]; · iexact vf0
  iexact HO

set_option maxHeartbeats 4000000 in
/-- The second side's sum is sent on; the first side's second block has landed. -/
theorem part7 (c : Dev nD) (v5 v6 : BitVec 32) {Kt : (Σ' (v192 : FVec F S512x2048 .f32), Vec F S1x512x2048 .f32) → sProp (MT nD τ sig Unit (Elt F) ℕ UU ℕ)} :
    iprop(env m K ∗ owns (c : Thread nD τ) (vM false 0) fullShare (par m false c) ∗ some' (pt (!false) c) (rM false) ∗ TkS c false 2 ∗ Cr c true 1
      ∗ At c true 1 0 ∗ Cr c true 7 ∗ At c true 7 0 ∗ Cr c true 13 ∗ At c true 13 0 ∗ Ow c 7
      ∗ ((Cr c false 2 ∗ At c true 1 1 ∗ xO m c (bk true (pt true c)) ∗ At c true 7 1 ∗ owns (c : Thread nD τ) (vM true 1) fullShare (land1 m true c)
         ∗ At c true 13 1 ∗ owns (c : Thread nD τ) (wM true 1) fullShare (xb m c (bk true c)) ∗ xO m c (bk true c) ∗ Ow c 8) -∗ Kt ⟨k0_pay3 (unc (land1 m true c)) (xb m c (bk true c)), unc (land1 m true c)⟩))
      ⊢ wp frame (wpE (defs₀ (F := F)) 𝒱₀ (c : Thread nD τ) none) Set.univ (app k0_part7 c v5 v6) Kt := by
  iintro ⟨#Hg, vf0, drf, Tf2, Ct1, At1, Ct7, At7, Ct13, At13, HO, Hk⟩
  rw [k0_part7_eq_skeleton]; unfold app
  unfold k0_part7_skel
  simp only [semSignalWord, semWaitWord, Prog.lift, Prog.bind_op, Prog.bind_ret, Prog.pure_eq_ret]
  iapply (step_send m K c _ false 2 (!false) rfl 7 (src' := (vM false 0)) (dst' := (rM false)) rfl rfl (dev8_eq c) rfl rfl (par m false c) fullShare (BI.Entails.refl _) (rcv2 m false c) rfl) $$ [vf0 drf Tf2 HO]
  · isplitr; · iexact Hg
    isplitl [vf0]; · iexact vf0
    isplitl [drf]; · iexact drf
    isplitl [Tf2]; · iexact Tf2
    iexact HO
  iintro ⟨Cf2, HO⟩
  iapply (step_wait m K c true 1 0 8 rfl (dut_dma _) (by decide) (xO m c (bk true (pt true c))) (BI.Entails.refl _)) $$ [Ct1 At1 HO]
  · isplitr; · iexact Hg
    isplitl [Ct1]; · iexact Ct1
    isplitl [At1]; · iexact At1
    iexact HO
  iintro ⟨At1, -, xt2, HO⟩
  iapply (step_wait m K c true 7 0 8 rfl (dut_dma _) (by decide) (owns (c : Thread nD τ) (vM true 1) fullShare (land1 m true c)) (BI.Entails.refl _)) $$ [Ct7 At7 HO]
  · isplitr; · iexact Hg
    isplitl [Ct7]; · iexact Ct7
    isplitl [At7]; · iexact At7
    iexact HO
  iintro ⟨At7, -, vt1, HO⟩
  iapply (step_wait m K c true 13 0 8 rfl (dut_dma _) (by decide) iprop(owns (c : Thread nD τ) (wM true 1) fullShare (xb m c (bk true c)) ∗ xO m c (bk true c)) (BI.Entails.refl _)) $$ [Ct13 At13 HO]
  · isplitr; · iexact Hg
    isplitl [Ct13]; · iexact Ct13
    isplitl [At13]; · iexact At13
    iexact HO
  iintro ⟨At13, -, ⟨wt1, xt0⟩, HO⟩
  iapply (step_load_slot c (Memref.whole cc0_scratch0) 1 (V := (vM true 1)) rfl rfl fullShare (land1 m true c)) $$ [vt1]
  · iexact vt1
  iintro vt1
  iapply (step_load_buf c _ fullShare (xb m c (bk true c))) $$ [wt1]
  · iexact wt1
  iintro wt1
  iapply (step_load_slot c (Memref.whole cc0_scratch0) 1 (V := (vM true 1)) rfl rfl fullShare (land1 m true c)) $$ [vt1]
  · iexact vt1
  iintro vt1
  rw [wp_ret]; imodintro
  iapply Hk
  isplitl [Cf2]; · iexact Cf2
  isplitl [At1]; · iexact At1
  isplitl [xt2]; · iexact xt2
  isplitl [At7]; · iexact At7
  isplitl [vt1]; · iexact vt1
  isplitl [At13]; · iexact At13
  isplitl [wt1]; · iexact wt1
  isplitl [xt0]; · iexact xt0
  iexact HO

set_option maxHeartbeats 4000000 in
/-- The first side's own sum is stored; the second side's second block has landed. -/
theorem part8 (c : Dev nD) (v2 v7 : BitVec 32) {Kt : (Σ' (v192 : FVec F S512x2048 .f32), Vec F S1x512x2048 .f32) → sProp (MT nD τ sig Unit (Elt F) ℕ UU ℕ)} :
    iprop(env m K ∗ owns (c : Thread nD τ) (vM true 1) fullShare (land1 m true c) ∗ Cr c false 1 ∗ At c false 1 0 ∗ Cr c false 7 ∗ At c false 7 0
      ∗ Cr c false 13 ∗ At c false 13 0 ∗ Ow c 8
      ∗ ((owns (c : Thread nD τ) (vM true 1) fullShare (own m true c) ∗ At c false 1 1 ∗ xO m c (bk false (pt false c)) ∗ At c false 7 1
         ∗ owns (c : Thread nD τ) (vM false 1) fullShare (land1 m false c) ∗ At c false 13 1
         ∗ owns (c : Thread nD τ) (wM false 1) fullShare (xb m c (bk false c)) ∗ xO m c (bk false c) ∗ Ow c 8) -∗ Kt ⟨k0_pay5 (unc (land1 m false c)) (xb m c (bk false c)), unc (land1 m false c)⟩))
      ⊢ wp frame (wpE (defs₀ (F := F)) 𝒱₀ (c : Thread nD τ) none) Set.univ (app k0_part8 c v2 v7 (k0_pay3 (unc (land1 m true c)) (xb m c (bk true c))) (unc (land1 m true c))) Kt := by
  iintro ⟨#Hg, vt1, Cf1, Af1, Cf7, Af7, Cf13, Af13, HO, Hk⟩
  rw [k0_part8_eq_skeleton]; unfold app
  unfold k0_part8_skel
  simp only [semSignalWord, semWaitWord, Prog.lift, Prog.bind_op, Prog.bind_ret, Prog.pure_eq_ret]
  iapply (step_store_slot c (Memref.whole cc0_scratch0) 1 (V := (vM true 1)) rfl rfl (land1 m true c) (own m true c) _ (pay1_eq _ _)) $$ [vt1]
  · iexact vt1
  iintro vt1
  iapply (step_wait m K c false 1 0 8 rfl (dut_dma _) (by decide) (xO m c (bk false (pt false c))) (BI.Entails.refl _)) $$ [Cf1 Af1 HO]
  · isplitr; · iexact Hg
    isplitl [Cf1]; · iexact Cf1
    isplitl [Af1]; · iexact Af1
    iexact HO
  iintro ⟨Af1, -, xf2, HO⟩
  iapply (step_wait m K c false 7 0 8 rfl (dut_dma _) (by decide) (owns (c : Thread nD τ) (vM false 1) fullShare (land1 m false c)) (BI.Entails.refl _)) $$ [Cf7 Af7 HO]
  · isplitr; · iexact Hg
    isplitl [Cf7]; · iexact Cf7
    isplitl [Af7]; · iexact Af7
    iexact HO
  iintro ⟨Af7, -, vf1, HO⟩
  iapply (step_wait m K c false 13 0 8 rfl (dut_dma _) (by decide) iprop(owns (c : Thread nD τ) (wM false 1) fullShare (xb m c (bk false c)) ∗ xO m c (bk false c)) (BI.Entails.refl _)) $$ [Cf13 Af13 HO]
  · isplitr; · iexact Hg
    isplitl [Cf13]; · iexact Cf13
    isplitl [Af13]; · iexact Af13
    iexact HO
  iintro ⟨Af13, -, ⟨wf1, xf0⟩, HO⟩
  iapply (step_load_slot c (Memref.whole cc0_scratch1) 1 (V := (vM false 1)) rfl rfl fullShare (land1 m false c)) $$ [vf1]
  · iexact vf1
  iintro vf1
  iapply (step_load_buf c _ fullShare (xb m c (bk false c))) $$ [wf1]
  · iexact wf1
  iintro wf1
  iapply (step_load_slot c (Memref.whole cc0_scratch1) 1 (V := (vM false 1)) rfl rfl fullShare (land1 m false c)) $$ [vf1]
  · iexact vf1
  iintro vf1
  rw [wp_ret]; imodintro
  iapply Hk
  isplitl [vt1]; · iexact vt1
  isplitl [Af1]; · iexact Af1
  isplitl [xf2]; · iexact xf2
  isplitl [Af7]; · iexact Af7
  isplitl [vf1]; · iexact vf1
  isplitl [Af13]; · iexact Af13
  isplitl [wf1]; · iexact wf1
  isplitl [xf0]; · iexact xf0
  iexact HO

set_option maxHeartbeats 4000000 in
/-- The second side's own sum is stored; the first side's partner sum has landed and is added. -/
theorem part9 (c : Dev nD) (v2 v7 : BitVec 32) {Kt : (PUnit) → sProp (MT nD τ sig Unit (Elt F) ℕ UU ℕ)} :
    iprop(env m K ∗ owns (c : Thread nD τ) (vM false 1) fullShare (land1 m false c) ∗ Cr c true 2 ∗ At c true 2 0 ∗ Cr c true 8 ∗ At c true 8 0
      ∗ owns (c : Thread nD τ) (vM true 1) fullShare (own m true c) ∗ Ow c 8
      ∗ ((owns (c : Thread nD τ) (vM false 1) fullShare (own m false c) ∗ At c true 2 1 ∗ owns (c : Thread nD τ) (vM true 0) fullShare (par m true c)
         ∗ At c true 8 1 ∗ owns (c : Thread nD τ) (rM true) fullShare (par m true (pt (!true) c))
         ∗ owns (c : Thread nD τ) (vM true 1) fullShare (fin m true c) ∗ Ow c 8) -∗ Kt ⟨⟩))
      ⊢ wp frame (wpE (defs₀ (F := F)) 𝒱₀ (c : Thread nD τ) none) Set.univ (app k0_part9 v2 v7 (k0_pay5 (unc (land1 m false c)) (xb m c (bk false c))) (unc (land1 m false c))) Kt := by
  iintro ⟨#Hg, vf1, Ct2, At2, Ct8, At8, vt1, HO, Hk⟩
  rw [k0_part9_eq_skeleton]; unfold app
  unfold k0_part9_skel
  simp only [semSignalWord, semWaitWord, Prog.lift, Prog.bind_op, Prog.bind_ret, Prog.pure_eq_ret]
  iapply (step_store_slot c (Memref.whole cc0_scratch1) 1 (V := (vM false 1)) rfl rfl (land1 m false c) (own m false c) _ (pay1_eq _ _)) $$ [vf1]
  · iexact vf1
  iintro vf1
  iapply (step_wait m K c true 2 0 8 rfl (dut_dma _) (by decide) (owns (c : Thread nD τ) (vM true 0) fullShare (par m true c)) (BI.Entails.refl _)) $$ [Ct2 At2 HO]
  · isplitr; · iexact Hg
    isplitl [Ct2]; · iexact Ct2
    isplitl [At2]; · iexact At2
    iexact HO
  iintro ⟨At2, -, vt0, HO⟩
  iapply (step_wait m K c true 8 0 8 rfl (dut_dma _) (by decide) (owns (c : Thread nD τ) (rM true) fullShare (par m true (pt (!true) c))) (BI.Entails.refl _)) $$ [Ct8 At8 HO]
  · isplitr; · iexact Hg
    isplitl [Ct8]; · iexact Ct8
    isplitl [At8]; · iexact At8
    iexact HO
  iintro ⟨At8, -, rt, HO⟩
  iapply (step_add c (Memref.whole cc0_scratch0) 1 _ (V := (vM true 1)) (B' := (rM true)) rfl rfl rfl (own m true c) (par m true (pt (!true) c)) _ rfl) $$ [vt1 rt]
  · isplitl [vt1]; · iexact vt1
    iexact rt
  iintro ⟨vt1, rt⟩
  rw [wp_ret]; imodintro
  iapply Hk
  isplitl [vf1]; · iexact vf1
  isplitl [At2]; · iexact At2
  isplitl [vt0]; · iexact vt0
  isplitl [At8]; · iexact At8
  isplitl [rt]; · iexact rt
  isplitl [vt1]; · iexact vt1
  iexact HO

set_option maxHeartbeats 4000000 in
/-- The first side's total is sent to both partners and copied to the result. -/
theorem part10 (c : Dev nD) (v5 v6 : BitVec 32) {Kt : (PUnit) → sProp (MT nD τ sig Unit (Elt F) ℕ UU ℕ)} :
    iprop(env m K ∗ owns (c : Thread nD τ) (vM true 1) fullShare (fin m true c) ∗ some' (pt (!true) c) (oM (bk true c)) ∗ TkS c true 3
      ∗ some' (pt true c) (oM (bk true c)) ∗ TkS c true 4 ∗ some' c (oM (bk true c)) ∗ TkL c true 12 1 ∗ reached ER (cell c (.dma (sd true 12))) 1
      ∗ Cr c false 2 ∗ At c false 2 0 ∗ Ow c 8
      ∗ ((Cr c true 3 ∗ Cr c true 4 ∗ Cr c true 12 ∗ At c false 2 1 ∗ owns (c : Thread nD τ) (vM false 0) fullShare (par m false c) ∗ Ow c 10) -∗ Kt ⟨⟩))
      ⊢ wp frame (wpE (defs₀ (F := F)) 𝒱₀ (c : Thread nD τ) none) Set.univ (app k0_part10 c v5 v6) Kt := by
  iintro ⟨#Hg, vt1, dot3, Tt3, dot4, Tt4, dot0, Lt12b, #Rt12, Cf2, Af2, HO, Hk⟩
  rw [k0_part10_eq_skeleton]; unfold app
  unfold k0_part10_skel
  simp only [semSignalWord, semWaitWord, Prog.lift, Prog.bind_op, Prog.bind_ret, Prog.pure_eq_ret]
  ihave vt1 := (owns_share c (vM true 1) fullShare (fin m true c)) $$ vt1
  icases vt1 with ⟨vt1L, vt1R⟩
  ihave vt1R := (owns_share c (vM true 1) fullShare.right (fin m true c)) $$ vt1R
  icases vt1R with ⟨vt1RL, vt1RR⟩
  iapply (step_send m K c _ true 3 (!true) rfl 8 (src' := (vM true 1)) (dst' := (oM (bk true c))) rfl (o_slice (k0_off9_inb c) (bk true c) (off9_eq c)) (dev9_eq c) rfl rfl (fin m true c) fullShare.left (BI.Entails.refl _) (rcv3 m true c) rfl) $$ [vt1L dot3 Tt3 HO]
  · isplitr; · iexact Hg
    isplitl [vt1L]; · iexact vt1L
    isplitl [dot3]; · iexact dot3
    isplitl [Tt3]; · iexact Tt3
    iexact HO
  iintro ⟨Ct3, HO⟩
  iapply (step_send m K c _ true 4 true rfl 9 (src' := (vM true 1)) (dst' := (oM (bk true c))) rfl (o_slice (k0_off9_inb c) (bk true c) (off9_eq c)) (dev10_eq c) rfl rfl (fin m true c) fullShare.right.left (BI.Entails.refl _) (rcv4 m true c) rfl) $$ [vt1RL dot4 Tt4 HO]
  · isplitr; · iexact Hg
    isplitl [vt1RL]; · iexact vt1RL
    isplitl [dot4]; · iexact dot4
    isplitl [Tt4]; · iexact Tt4
    iexact HO
  iintro ⟨Ct4, HO⟩
  iapply (step_copy m K c true 12 1 (src' := (vM true 1)) (dst' := (oM (bk true c))) rfl (o_slice (k0_off9_inb c) (bk true c) (off9_eq c)) rfl (dut_loc _) (fin m true c) fullShare.right.right (BI.Entails.refl _)) $$ [vt1RR dot0 Lt12b]
  · isplitr; · iexact Hg
    isplitl [vt1RR]; · iexact vt1RR
    isplitl [dot0]; · iexact dot0
    isplitl [Lt12b]; · iexact Lt12b
    iexact Rt12
  iintro Ct12
  iapply (step_wait m K c false 2 0 10 rfl (dut_dma _) (by decide) (owns (c : Thread nD τ) (vM false 0) fullShare (par m false c)) (BI.Entails.refl _)) $$ [Cf2 Af2 HO]
  · isplitr; · iexact Hg
    isplitl [Cf2]; · iexact Cf2
    isplitl [Af2]; · iexact Af2
    iexact HO
  iintro ⟨Af2, -, vf0, HO⟩
  rw [wp_ret]; imodintro
  iapply Hk
  isplitl [Ct3]; · iexact Ct3
  isplitl [Ct4]; · iexact Ct4
  isplitl [Ct12]; · iexact Ct12
  isplitl [Af2]; · iexact Af2
  isplitl [vf0]; · iexact vf0
  iexact HO

set_option maxHeartbeats 4000000 in
/-- The second side's total is formed and sent to one partner. -/
theorem part11 (c : Dev nD) (v2 v5 v6 v7 : BitVec 32) {Kt : (PUnit) → sProp (MT nD τ sig Unit (Elt F) ℕ UU ℕ)} :
    iprop(env m K ∗ Cr c false 8 ∗ At c false 8 0 ∗ owns (c : Thread nD τ) (vM false 1) fullShare (own m false c)
      ∗ some' (pt (!false) c) (oM (bk false c)) ∗ TkS c false 3 ∗ Ow c 10
      ∗ ((At c false 8 1 ∗ owns (c : Thread nD τ) (rM false) fullShare (par m false (pt (!false) c))
         ∗ owns (c : Thread nD τ) (vM false 1) fullShare.right.left (fin m false c)
         ∗ owns (c : Thread nD τ) (vM false 1) fullShare.right.right (fin m false c) ∗ Cr c false 3 ∗ Ow c 11) -∗ Kt ⟨⟩))
      ⊢ wp frame (wpE (defs₀ (F := F)) 𝒱₀ (c : Thread nD τ) none) Set.univ (app k0_part11 c v2 v5 v6 v7) Kt := by
  iintro ⟨#Hg, Cf8, Af8, vf1, dof3, Tf3, HO, Hk⟩
  rw [k0_part11_eq_skeleton]; unfold app
  unfold k0_part11_skel
  simp only [semSignalWord, semWaitWord, Prog.lift, Prog.bind_op, Prog.bind_ret, Prog.pure_eq_ret]
  iapply (step_wait m K c false 8 0 10 rfl (dut_dma _) (by decide) (owns (c : Thread nD τ) (rM false) fullShare (par m false (pt (!false) c))) (BI.Entails.refl _)) $$ [Cf8 Af8 HO]
  · isplitr; · iexact Hg
    isplitl [Cf8]; · iexact Cf8
    isplitl [Af8]; · iexact Af8
    iexact HO
  iintro ⟨Af8, -, rf, HO⟩
  iapply (step_add c (Memref.whole cc0_scratch1) 1 _ (V := (vM false 1)) (B' := (rM false)) rfl rfl rfl (own m false c) (par m false (pt (!false) c)) _ rfl) $$ [vf1 rf]
  · isplitl [vf1]; · iexact vf1
    iexact rf
  iintro ⟨vf1, rf⟩
  ihave vf1 := (fin_intro m false c (vM false 1)) $$ vf1
  ihave vf1 := (owns_share c (vM false 1) fullShare (fin m false c)) $$ vf1
  icases vf1 with ⟨vf1L, vf1R⟩
  ihave vf1R := (owns_share c (vM false 1) fullShare.right (fin m false c)) $$ vf1R
  icases vf1R with ⟨vf1RL, vf1RR⟩
  iapply (step_send m K c _ false 3 (!false) rfl 10 (src' := (vM false 1)) (dst' := (oM (bk false c))) rfl (o_slice (k0_off10_inb c) (bk false c) (off10_eq c)) (dev11_eq c) rfl rfl (fin m false c) fullShare.left (BI.Entails.refl _) (rcv3 m false c) rfl) $$ [vf1L dof3 Tf3 HO]
  · isplitr; · iexact Hg
    isplitl [vf1L]; · iexact vf1L
    isplitl [dof3]; · iexact dof3
    isplitl [Tf3]; · iexact Tf3
    iexact HO
  iintro ⟨Cf3, HO⟩
  rw [wp_ret]; imodintro
  iapply Hk
  isplitl [Af8]; · iexact Af8
  isplitl [rf]; · iexact rf
  isplitl [vf1RL]; · iexact vf1RL
  isplitl [vf1RR]; · iexact vf1RR
  isplitl [Cf3]; · iexact Cf3
  iexact HO

set_option maxHeartbeats 4000000 in
/-- The second side's total is sent to the other partner and copied to the result. -/
theorem part12 (c : Dev nD) (v2 v5 v6 v7 : BitVec 32) {Kt : (PUnit) → sProp (MT nD τ sig Unit (Elt F) ℕ UU ℕ)} :
    iprop(env m K ∗ owns (c : Thread nD τ) (vM false 1) fullShare.right.left (fin m false c) ∗ some' (pt false c) (oM (bk false c)) ∗ TkS c false 4
      ∗ owns (c : Thread nD τ) (vM false 1) fullShare.right.right (fin m false c) ∗ some' c (oM (bk false c)) ∗ TkL c false 12 1
      ∗ reached ER (cell c (.dma (sd false 12))) 1 ∗ Cr c true 3 ∗ At c true 3 0 ∗ Cr c true 9 ∗ At c true 9 0 ∗ Ow c 11
      ∗ ((Cr c false 4 ∗ Cr c false 12 ∗ At c true 3 1 ∗ owns (c : Thread nD τ) (vM true 1) fullShare.left (fin m true c) ∗ At c true 9 1
         ∗ oO m c true (pt (!true) c) ∗ Ow c 12) -∗ Kt ⟨⟩))
      ⊢ wp frame (wpE (defs₀ (F := F)) 𝒱₀ (c : Thread nD τ) none) Set.univ (app k0_part12 c v2 v5 v6 v7) Kt := by
  iintro ⟨#Hg, vf1RL, dof4, Tf4, vf1RR, dof0, Lf12b, #Rf12, Ct3, At3, Ct9, At9, HO, Hk⟩
  rw [k0_part12_eq_skeleton]; unfold app
  unfold k0_part12_skel
  simp only [semSignalWord, semWaitWord, Prog.lift, Prog.bind_op, Prog.bind_ret, Prog.pure_eq_ret]
  iapply (step_send m K c _ false 4 false rfl 11 (src' := (vM false 1)) (dst' := (oM (bk false c))) rfl (o_slice (k0_off10_inb c) (bk false c) (off10_eq c)) (dev12_eq c) rfl rfl (fin m false c) fullShare.right.left (BI.Entails.refl _) (rcv4 m false c) rfl) $$ [vf1RL dof4 Tf4 HO]
  · isplitr; · iexact Hg
    isplitl [vf1RL]; · iexact vf1RL
    isplitl [dof4]; · iexact dof4
    isplitl [Tf4]; · iexact Tf4
    iexact HO
  iintro ⟨Cf4, HO⟩
  iapply (step_copy m K c false 12 1 (src' := (vM false 1)) (dst' := (oM (bk false c))) rfl (o_slice (k0_off10_inb c) (bk false c) (off10_eq c)) rfl (dut_loc _) (fin m false c) fullShare.right.right (BI.Entails.refl _)) $$ [vf1RR dof0 Lf12b]
  · isplitr; · iexact Hg
    isplitl [vf1RR]; · iexact vf1RR
    isplitl [dof0]; · iexact dof0
    isplitl [Lf12b]; · iexact Lf12b
    iexact Rf12
  iintro Cf12
  iapply (step_wait m K c true 3 0 12 rfl (dut_dma _) (by decide) (owns (c : Thread nD τ) (vM true 1) fullShare.left (fin m true c)) (BI.Entails.refl _)) $$ [Ct3 At3 HO]
  · isplitr; · iexact Hg
    isplitl [Ct3]; · iexact Ct3
    isplitl [At3]; · iexact At3
    iexact HO
  iintro ⟨At3, -, vt1L, HO⟩
  iapply (step_wait m K c true 9 0 12 rfl (dut_dma _) (by decide) (oO m c true (pt (!true) c)) (BI.Entails.refl _)) $$ [Ct9 At9 HO]
  · isplitr; · iexact Hg
    isplitl [Ct9]; · iexact Ct9
    isplitl [At9]; · iexact At9
    iexact HO
  iintro ⟨At9, -, ot1, HO⟩
  rw [wp_ret]; imodintro
  iapply Hk
  isplitl [Cf4]; · iexact Cf4
  isplitl [Cf12]; · iexact Cf12
  isplitl [At3]; · iexact At3
  isplitl [vt1L]; · iexact vt1L
  isplitl [At9]; · iexact At9
  isplitl [ot1]; · iexact ot1
  iexact HO

set_option maxHeartbeats 4000000 in
/-- The totals received are passed on. -/
theorem part13 (c : Dev nD) (v2 v5 v6 v7 : BitVec 32) {Kt : (PUnit) → sProp (MT nD τ sig Unit (Elt F) ℕ UU ℕ)} :
    iprop(env m K ∗ oO m c true (pt (!true) c) ∗ some' (pt true c) (oM (bk true (pt (!true) c))) ∗ TkS c true 5 ∗ Cr c false 3 ∗ At c false 3 0
      ∗ Cr c false 9 ∗ At c false 9 0 ∗ some' (pt false c) (oM (bk false (pt (!false) c))) ∗ TkS c false 5 ∗ Cr c true 12 ∗ At c true 12 1 ∗ Ow c 12
      ∗ ((Cr c true 5 ∗ At c false 3 1 ∗ owns (c : Thread nD τ) (vM false 1) fullShare.left (fin m false c) ∗ At c false 9 1 ∗ Cr c false 5
         ∗ At c true 12 2 ∗ oO m c true c ∗ owns (c : Thread nD τ) (vM true 1) fullShare.right.right (fin m true c) ∗ Ow c 14) -∗ Kt ⟨⟩))
      ⊢ wp frame (wpE (defs₀ (F := F)) 𝒱₀ (c : Thread nD τ) none) Set.univ (app k0_part13 c v2 v5 v6 v7) Kt := by
  iintro ⟨#Hg, ot1, dot5, Tt5, Cf3, Af3, Cf9, Af9, dof5, Tf5, Ct12, At12, HO, Hk⟩
  rw [k0_part13_eq_skeleton]; unfold app
  unfold k0_part13_skel
  simp only [semSignalWord, semWaitWord, Prog.lift, Prog.bind_op, Prog.bind_ret, Prog.pure_eq_ret]
  iapply (step_send m K c _ true 5 true rfl 12 (src' := (oM (bk true (pt (!true) c)))) (dst' := (oM (bk true (pt (!true) c)))) (o_slice (k0_off11_inb c) (bk true (pt (!true) c)) (off11_eq c)) (o_slice (k0_off11_inb c) (bk true (pt (!true) c)) (off11_eq c)) (dev13_eq c) rfl rfl (fin m true (pt (!true) c)) fullShare (BI.Entails.refl _) (rcv5 m true c) rfl) $$ [ot1 dot5 Tt5 HO]
  · isplitr; · iexact Hg
    isplitl [ot1]; · iexact ot1
    isplitl [dot5]; · iexact dot5
    isplitl [Tt5]; · iexact Tt5
    iexact HO
  iintro ⟨Ct5, HO⟩
  iapply (step_wait m K c false 3 0 13 rfl (dut_dma _) (by decide) (owns (c : Thread nD τ) (vM false 1) fullShare.left (fin m false c)) (BI.Entails.refl _)) $$ [Cf3 Af3 HO]
  · isplitr; · iexact Hg
    isplitl [Cf3]; · iexact Cf3
    isplitl [Af3]; · iexact Af3
    iexact HO
  iintro ⟨Af3, -, vf1L, HO⟩
  iapply (step_wait m K c false 9 0 13 rfl (dut_dma _) (by decide) (oO m c false (pt (!false) c)) (BI.Entails.refl _)) $$ [Cf9 Af9 HO]
  · isplitr; · iexact Hg
    isplitl [Cf9]; · iexact Cf9
    isplitl [Af9]; · iexact Af9
    iexact HO
  iintro ⟨Af9, -, of1, HO⟩
  iapply (step_send m K c _ false 5 false rfl 13 (src' := (oM (bk false (pt (!false) c)))) (dst' := (oM (bk false (pt (!false) c)))) (o_slice (k0_off12_inb c) (bk false (pt (!false) c)) (off12_eq c)) (o_slice (k0_off12_inb c) (bk false (pt (!false) c)) (off12_eq c)) (dev14_eq c) rfl rfl (fin m false (pt (!false) c)) fullShare (BI.Entails.refl _) (rcv5 m false c) rfl) $$ [of1 dof5 Tf5 HO]
  · isplitr; · iexact Hg
    isplitl [of1]; · iexact of1
    isplitl [dof5]; · iexact dof5
    isplitl [Tf5]; · iexact Tf5
    iexact HO
  iintro ⟨Cf5, HO⟩
  iapply (step_wait m K c true 12 1 14 rfl (dut_loc _) (by decide) iprop(oO m c true c ∗ owns (c : Thread nD τ) (vM true 1) fullShare.right.right (fin m true c)) (BI.Entails.refl _)) $$ [Ct12 At12 HO]
  · isplitr; · iexact Hg
    isplitl [Ct12]; · iexact Ct12
    isplitl [At12]; · iexact At12
    iexact HO
  iintro ⟨At12, -, ⟨ot0, vt1RR⟩, HO⟩
  rw [wp_ret]; imodintro
  iapply Hk
  isplitl [Ct5]; · iexact Ct5
  isplitl [Af3]; · iexact Af3
  isplitl [vf1L]; · iexact vf1L
  isplitl [Af9]; · iexact Af9
  isplitl [Cf5]; · iexact Cf5
  isplitl [At12]; · iexact At12
  isplitl [ot0]; · iexact ot0
  isplitl [vt1RR]; · iexact vt1RR
  iexact HO

set_option maxHeartbeats 4000000 in
/-- The copies to the result and transfers are waited for. -/
theorem part14 (c : Dev nD) (v2 v5 v6 : BitVec 32) {Kt : (Σ' (v383 : BitVec 32), BitVec 32) → sProp (MT nD τ sig Unit (Elt F) ℕ UU ℕ)} :
    iprop(env m K ∗ Cr c false 12 ∗ At c false 12 1 ∗ Cr c true 4 ∗ At c true 4 0 ∗ Cr c true 10 ∗ At c true 10 0 ∗ Cr c false 4 ∗ At c false 4 0
      ∗ Ow c 14
      ∗ (∀ r, ((At c false 12 2 ∗ oO m c false c ∗ owns (c : Thread nD τ) (vM false 1) fullShare.right.right (fin m false c) ∗ At c true 4 1
         ∗ owns (c : Thread nD τ) (vM true 1) fullShare.right.left (fin m true c) ∗ At c true 10 1 ∗ oO m c true (pt true c) ∗ At c false 4 1
         ∗ owns (c : Thread nD τ) (vM false 1) fullShare.right.left (fin m false c) ∗ Ow c 14) -∗ Kt r)))
      ⊢ wp frame (wpE (defs₀ (F := F)) 𝒱₀ (c : Thread nD τ) none) Set.univ (app k0_part14 c v2 v5 v6) Kt := by
  iintro ⟨#Hg, Cf12, Af12, Ct4, At4, Ct10, At10, Cf4, Af4, HO, Hk⟩
  rw [k0_part14_eq_skeleton]; unfold app
  unfold k0_part14_skel
  simp only [semSignalWord, semWaitWord, Prog.lift, Prog.bind_op, Prog.bind_ret, Prog.pure_eq_ret]
  iapply (step_wait m K c false 12 1 14 rfl (dut_loc _) (by decide) iprop(oO m c false c ∗ owns (c : Thread nD τ) (vM false 1) fullShare.right.right (fin m false c)) (BI.Entails.refl _)) $$ [Cf12 Af12 HO]
  · isplitr; · iexact Hg
    isplitl [Cf12]; · iexact Cf12
    isplitl [Af12]; · iexact Af12
    iexact HO
  iintro ⟨Af12, -, ⟨of0, vf1RR⟩, HO⟩
  iapply (step_wait m K c true 4 0 14 rfl (dut_dma _) (by decide) (owns (c : Thread nD τ) (vM true 1) fullShare.right.left (fin m true c)) (BI.Entails.refl _)) $$ [Ct4 At4 HO]
  · isplitr; · iexact Hg
    isplitl [Ct4]; · iexact Ct4
    isplitl [At4]; · iexact At4
    iexact HO
  iintro ⟨At4, -, vt1RL, HO⟩
  iapply (step_wait m K c true 10 0 14 rfl (dut_dma _) (by decide) (oO m c true (pt true c)) (BI.Entails.refl _)) $$ [Ct10 At10 HO]
  · isplitr; · iexact Hg
    isplitl [Ct10]; · iexact Ct10
    isplitl [At10]; · iexact At10
    iexact HO
  iintro ⟨At10, -, ot2, HO⟩
  iapply (step_wait m K c false 4 0 14 rfl (dut_dma _) (by decide) (owns (c : Thread nD τ) (vM false 1) fullShare.right.left (fin m false c)) (BI.Entails.refl _)) $$ [Cf4 Af4 HO]
  · isplitr; · iexact Hg
    isplitl [Cf4]; · iexact Cf4
    isplitl [Af4]; · iexact Af4
    iexact HO
  iintro ⟨Af4, -, vf1RL, HO⟩
  rw [wp_ret]; imodintro
  iapply Hk
  isplitl [Af12]; · iexact Af12
  isplitl [of0]; · iexact of0
  isplitl [vf1RR]; · iexact vf1RR
  isplitl [At4]; · iexact At4
  isplitl [vt1RL]; · iexact vt1RL
  isplitl [At10]; · iexact At10
  isplitl [ot2]; · iexact ot2
  isplitl [Af4]; · iexact Af4
  isplitl [vf1RL]; · iexact vf1RL
  iexact HO

set_option maxHeartbeats 4000000 in
/-- The last transfers but one are waited for. -/
theorem part15 (c : Dev nD) (v2 v5 v6 v7 v383 c1_i32_390 : BitVec 32) {Kt : (PUnit) → sProp (MT nD τ sig Unit (Elt F) ℕ UU ℕ)} :
    iprop(env m K ∗ Cr c false 10 ∗ At c false 10 0 ∗ Cr c true 5 ∗ At c true 5 0 ∗ Cr c true 11 ∗ At c true 11 0 ∗ Cr c false 5 ∗ At c false 5 0
      ∗ Ow c 14
      ∗ ((At c false 10 1 ∗ oO m c false (pt false c) ∗ At c true 5 1 ∗ oO m c true (pt (!true) c) ∗ At c true 11 1
         ∗ oO m c true (pt (!true) (pt true c)) ∗ At c false 5 1 ∗ oO m c false (pt (!false) c) ∗ Ow c 14) -∗ Kt ⟨⟩))
      ⊢ wp frame (wpE (defs₀ (F := F)) 𝒱₀ (c : Thread nD τ) none) Set.univ (app k0_part15 c v2 v5 v6 v7 v383 c1_i32_390) Kt := by
  iintro ⟨#Hg, Cf10, Af10, Ct5, At5, Ct11, At11, Cf5, Af5, HO, Hk⟩
  rw [k0_part15_eq_skeleton]; unfold app
  unfold k0_part15_skel
  simp only [semSignalWord, semWaitWord, Prog.lift, Prog.bind_op, Prog.bind_ret, Prog.pure_eq_ret]
  iapply (step_wait m K c false 10 0 14 rfl (dut_dma _) (by decide) (oO m c false (pt false c)) (BI.Entails.refl _)) $$ [Cf10 Af10 HO]
  · isplitr; · iexact Hg
    isplitl [Cf10]; · iexact Cf10
    isplitl [Af10]; · iexact Af10
    iexact HO
  iintro ⟨Af10, -, of2, HO⟩
  iapply (step_wait m K c true 5 0 14 rfl (dut_dma _) (by decide) (oO m c true (pt (!true) c)) (BI.Entails.refl _)) $$ [Ct5 At5 HO]
  · isplitr; · iexact Hg
    isplitl [Ct5]; · iexact Ct5
    isplitl [At5]; · iexact At5
    iexact HO
  iintro ⟨At5, -, ot1, HO⟩
  iapply (step_wait m K c true 11 0 14 rfl (dut_dma _) (by decide) (oO m c true (pt (!true) (pt true c))) (BI.Entails.refl _)) $$ [Ct11 At11 HO]
  · isplitr; · iexact Hg
    isplitl [Ct11]; · iexact Ct11
    isplitl [At11]; · iexact At11
    iexact HO
  iintro ⟨At11, -, ot3, HO⟩
  iapply (step_wait m K c false 5 0 14 rfl (dut_dma _) (by decide) (oO m c false (pt (!false) c)) (BI.Entails.refl _)) $$ [Cf5 Af5 HO]
  · isplitr; · iexact Hg
    isplitl [Cf5]; · iexact Cf5
    isplitl [Af5]; · iexact Af5
    iexact HO
  iintro ⟨Af5, -, of1, HO⟩
  rw [wp_ret]; imodintro
  iapply Hk
  isplitl [Af10]; · iexact Af10
  isplitl [of2]; · iexact of2
  isplitl [At5]; · iexact At5
  isplitl [ot1]; · iexact ot1
  isplitl [At11]; · iexact At11
  isplitl [ot3]; · iexact ot3
  isplitl [Af5]; · iexact Af5
  isplitl [of1]; · iexact of1
  iexact HO

end Cert.KernelIdeal.Sum

end
-- ==== Proof.KernelIdeal.Body.lean ====
/-
# The kernel's body

What a device starts with, what it ends with, and that the body runs from the one to the other.
-/
module

public import proofs.«01_k».proof.Proof.KernelIdeal.Stretches
public import proofs.«01_k».proof.Proof.Gen.KernelIdeal.Skeleton

@[expose] public section

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Idealize.ShloMosaic.Ring

variable {F : FTy → Type} [FloatOps F]

local notation "𝕄" => MT nD τ sig Unit (Elt F) ℕ UU ℕ

variable (m : (ℓ : Loc nD τ sig) → Buf (Elt F) ℓ) (K : Dev nD × SemLoc sig → ℕ)

/-! ## What a device starts with and what it ends with -/

/-- Device `c`'s places on side `s`'s DMA semaphores at the start. -/
def AtS (c : Dev nD) (s : Bool) : sProp 𝕄 :=
  iprop(At (F := F) c s 0 0 ∗ At c s 1 0 ∗ At c s 2 0 ∗ At c s 3 0 ∗ At c s 4 0 ∗ At c s 5 0 ∗ At c s 6 0 ∗ At c s 7 0 ∗ At c s 8 0 ∗ At c s 9 0
    ∗ At c s 10 0 ∗ At c s 11 0 ∗ At c s 12 0 ∗ At c s 13 0)
/-- The same at the end. -/
def AtE (c : Dev nD) (s : Bool) : sProp 𝕄 :=
  iprop(At (F := F) c s 0 1 ∗ At c s 1 1 ∗ At c s 2 1 ∗ At c s 3 1 ∗ At c s 4 1 ∗ At c s 5 1 ∗ At c s 6 1 ∗ At c s 7 1 ∗ At c s 8 1 ∗ At c s 9 1
    ∗ At c s 10 1 ∗ At c s 11 1 ∗ At c s 12 2 ∗ At c s 13 1)
/-- Credit for the six blocks that arrive on side `s`. -/
def CrS (c : Dev nD) (s : Bool) : sProp 𝕄 := iprop(Cr (F := F) c s 6 ∗ Cr c s 7 ∗ Cr c s 8 ∗ Cr c s 9 ∗ Cr c s 10 ∗ Cr c s 11)
/-- The rights to pay that side `s` of device `c` uses. -/
def TkA (c : Dev nD) (s : Bool) : sProp 𝕄 :=
  iprop(TkS (F := F) c s 0 ∗ TkS c s 1 ∗ TkS c s 2 ∗ TkS c s 3 ∗ TkS c s 4 ∗ TkS c s 5 ∗ TkL c s 12 0 ∗ TkL c s 13 0 ∗ TkL c s 12 1
    ∗ dutyTok ER (cell (pt s c) (.reg barS)) 0 s)
/-- The four blocks of side `s` of `c`'s input. -/
def xS (c : Dev nD) (s : Bool) : sProp 𝕄 :=
  iprop(xO m c (bk s c) ∗ xO m c (bk s (pt (!s) c)) ∗ xO m c (bk s (pt s c)) ∗ xO m c (bk s (pt (!s) (pt s c))))
/-- The four blocks of side `s` of `c`'s result, at some contents. -/
def oS (c : Dev nD) (s : Bool) : sProp 𝕄 :=
  iprop(some' (F := F) c (oM (bk s c)) ∗ some' c (oM (bk s (pt (!s) c))) ∗ some' c (oM (bk s (pt s c))) ∗ some' c (oM (bk s (pt (!s) (pt s c)))))
/-- The four blocks of side `s` of `c`'s result, at their sums. -/
def oE (c : Dev nD) (s : Bool) : sProp 𝕄 :=
  iprop(oO m c s c ∗ oO m c s (pt (!s) c) ∗ oO m c s (pt s c) ∗ oO m c s (pt (!s) (pt s c)))
/-- Side `s`'s buffers, at some contents. -/
def vS (c : Dev nD) (s : Bool) : sProp 𝕄 :=
  iprop(some' (F := F) c (vM s 0) ∗ some' c (vM s 1) ∗ some' c (rM s) ∗ some' c (wM s 0) ∗ some' c (wM s 1))

/-- The memory device `c` lends its partner `b` is what that partner's barrier wait delivers. -/
theorem barPay_intro (b : Bool) (c : Dev nD) :
    iprop(some' c (vM b 0) ∗ some' c (vM b 1) ∗ some' c (rM (!b)) ∗ some' c (oM (bk b (pt b c))) ∗ some' c (oM (bk b (pt (!b) (pt b c))))
      ∗ some' c (oM (bk (!b) (pt b c)))) ⊢ (barPay (pt b c) b : sProp 𝕄) := by
  unfold barPay
  rw [pt_pt]
/-- The same for the partner along x. -/
theorem barPay_true (c : Dev nD) :
    iprop(some' c (vM true 0) ∗ some' c (vM true 1) ∗ some' c (rM false) ∗ some' c (oM (bk true (pt true c))) ∗ some' c (oM (bk true (pt (!true) (pt true c))))
      ∗ some' c (oM (bk false (pt (!false) c)))) ⊢ (barPay (pt true c) true : sProp 𝕄) := barPay_intro true c
/-- The same for the partner along y. -/
theorem barPay_false (c : Dev nD) :
    iprop(some' c (vM false 0) ∗ some' c (vM false 1) ∗ some' c (rM true) ∗ some' c (oM (bk false (pt false c))) ∗ some' c (oM (bk false (pt (!false) (pt false c))))
      ∗ some' c (oM (bk true (pt (!true) c)))) ⊢ (barPay (pt false c) false : sProp 𝕄) := barPay_intro false c
/-- What the barrier wait brings from the partner along x, part by part. -/
theorem barPay_elim_true (c : Dev nD) : (barPay c true : sProp 𝕄) ⊢
    iprop(some' (pt true c) (vM true 0) ∗ some' (pt true c) (vM true 1) ∗ some' (pt (!false) c) (rM false) ∗ some' (pt true c) (oM (bk true c))
      ∗ some' (pt true c) (oM (bk true (pt (!true) c))) ∗ some' (pt (!false) c) (oM (bk false c))) := BI.Entails.refl _
/-- What the barrier wait brings from the partner along y, part by part. -/
theorem barPay_elim_false (c : Dev nD) : (barPay c false : sProp 𝕄) ⊢
    iprop(some' (pt false c) (vM false 0) ∗ some' (pt false c) (vM false 1) ∗ some' (pt (!true) c) (rM true) ∗ some' (pt false c) (oM (bk false c))
      ∗ some' (pt false c) (oM (bk false (pt (!false) c))) ∗ some' (pt (!true) c) (oM (bk true c))) := BI.Entails.refl _

/-- Memory held at contents is memory held at some contents. -/
theorem some_intro {sp : Space} {s : Shape} {e : EltTy} (c : Dev nD) (M : Memref sig .tc sp s e) (X : s.Idx → Elt F e) :
    owns (c : Thread nD τ) M fullShare X ⊢ (some' c M : sProp 𝕄) := by
  unfold some'; iintro H; iexists X; iexact H
/-- The three shares of a slot that three transfers read at once make up the slot. -/
theorem shares_join (c : Dev nD) (M : Memref sig .tc .vmem S512x2048 .f32) (X : Blk F) :
    iprop(owns (c : Thread nD τ) M fullShare.left X ∗ owns (c : Thread nD τ) M fullShare.right.left X ∗ owns (c : Thread nD τ) M fullShare.right.right X)
      ⊢ (some' c M : sProp 𝕄) := by
  iintro ⟨HL, HRL, HRR⟩
  ihave HR := (owns_join (c : Thread nD τ) M fullShare.right X) $$ [HRL HRR]
  · isplitl [HRL]; · iexact HRL
    iexact HRR
  ihave H := (owns_join (c : Thread nD τ) M fullShare X) $$ [HL HR]
  · isplitl [HL]; · iexact HL
    iexact HR
  iapply some_intro; iexact H

/-! ## The whole body -/

/-- What a device starts with. -/
def Pre (c : Dev nD) : sProp 𝕄 :=
  iprop(AtS c true ∗ AtS c false ∗ atPos ER (cell c (.reg barS)) 0 ∅ 0 ∗ CrS c true ∗ CrS c false ∗ cred (tallyAt (cell c (.reg barS)) () 2)
    ∗ TkA c true ∗ TkA c false ∗ xS m c true ∗ xS m c false ∗ oS c true ∗ oS c false ∗ vS c true ∗ vS c false)
/-- What it ends with. -/
def Post (c : Dev nD) : sProp 𝕄 :=
  iprop(AtE c true ∗ AtE c false ∗ atPos ER (cell c (.reg barS)) 1 ∅ 0 ∗ xS m c true ∗ xS m c false ∗ oE m c true ∗ oE m c false ∗ vS c true ∗ vS c false)

set_option maxHeartbeats 16000000 in
/-- The body runs from the one to the other. -/
theorem body_wp (c : Dev nD) {Kt : PUnit → sProp (MT nD τ sig Unit (Elt F) ℕ UU ℕ)} :
    iprop(env m K ∗ Pre m c ∗ Ow c 0 ∗ ((Post m c ∗ Ow c 14) -∗ Kt ⟨⟩))
      ⊢ wp frame (wpE (defs₀ (F := F)) 𝒱₀ (c : Thread nD τ) none) Set.univ (app cc0_body) Kt := by
  unfold Pre AtS CrS TkA xS oS vS
  iintro ⟨#Hg, ⟨⟨At0, At1, At2, At3, At4, At5, At6, At7, At8, At9, At10, At11, At12, At13⟩, ⟨Af0, Af1, Af2, Af3, Af4, Af5, Af6, Af7, Af8, Af9, Af10, Af11, Af12, Af13⟩, AB, ⟨Ct6, Ct7, Ct8, Ct9, Ct10, Ct11⟩, ⟨Cf6, Cf7, Cf8, Cf9, Cf10, Cf11⟩, CB, ⟨Tt0, Tt1, Tt2, Tt3, Tt4, Tt5, Lt12, Lt13, Lt12b, TBt⟩, ⟨Tf0, Tf1, Tf2, Tf3, Tf4, Tf5, Lf12, Lf13, Lf12b, TBf⟩, ⟨xt0, xt1, xt2, xt3⟩, ⟨xf0, xf1, xf2, xf3⟩, ⟨dot0, qt1, qt2, qt3⟩, ⟨dof0, qf1, qf2, qf3⟩, ⟨qvt0, qvt1, qrt, dwt0, dwt1⟩, ⟨qvf0, qvf1, qrf, dwf0, dwf1⟩⟩, HO, Hk⟩
  ihave Bt := (barPay_true c) $$ [qvt0 qvt1 qrf qt2 qt3 qf1]
  · isplitl [qvt0]; · iexact qvt0
    isplitl [qvt1]; · iexact qvt1
    isplitl [qrf]; · iexact qrf
    isplitl [qt2]; · iexact qt2
    isplitl [qt3]; · iexact qt3
    iexact qf1
  ihave Bf := (barPay_false c) $$ [qvf0 qvf1 qrt qf2 qf3 qt1]
  · isplitl [qvf0]; · iexact qvf0
    isplitl [qvf1]; · iexact qvf1
    isplitl [qrt]; · iexact qrt
    isplitl [qf2]; · iexact qf2
    isplitl [qf3]; · iexact qf3
    iexact qt1
  rw [cc0_body_eq_skeleton]; unfold app cc0_body_skel
  rw [wp_bind, k0_part1_eq_skeleton]
  unfold k0_part1_skel
  simp only [Prog.lift, Prog.bind_op, Prog.bind_ret, Prog.pure_eq_ret, wp_deviceId]
  rw [wp_ret]; imodintro
  rw [wp_bind]
  iapply (part2 m K c _ _ _ _ _)
  isplitr; · iexact Hg
  isplitl [xt1]; · iexact xt1
  isplitl [dwt0]; · iexact dwt0
  isplitl [Lt12]; · iexact Lt12
  isplitl [xf1]; · iexact xf1
  isplitl [dwf0]; · iexact dwf0
  isplitl [Lf12]; · iexact Lf12
  isplitl [xt0]; · iexact xt0
  isplitl [dwt1]; · iexact dwt1
  isplitl [Lt13]; · iexact Lt13
  isplitl [xf0]; · iexact xf0
  isplitl [dwf1]; · iexact dwf1
  isplitl [Lf13]; · iexact Lf13
  isplitl [Bt]; · iexact Bt
  isplitl [TBt]; · iexact TBt
  isplitl [Bf]; · iexact Bf
  isplitl [TBf]; · iexact TBf
  isplitl [CB]; · iexact CB
  isplitl [AB]; · iexact AB
  isplitl [HO]; · iexact HO
  iintro %r
  iintro ⟨Ct12, Cf12, Ct13, Cf13, AB, Bt, Bf, HO⟩
  obtain ⟨_, _⟩ := r
  dsimp only
  ihave Bt := (barPay_elim_true c) $$ Bt
  icases Bt with ⟨dvt0, dvt1, drf, dot4, dot5, dof3⟩
  ihave Bf := (barPay_elim_false c) $$ Bf
  icases Bf with ⟨dvf0, dvf1, drt, dof4, dof5, dot3⟩
  rw [wp_bind]
  iapply (part3 m K c _ _ _ _ _ _)
  isplitr; · iexact Hg
  isplitl [xt3]; · iexact xt3
  isplitl [dvt0]; · iexact dvt0
  isplitl [Tt0]; · iexact Tt0
  isplitl [xf3]; · iexact xf3
  isplitl [dvf0]; · iexact dvf0
  isplitl [Tf0]; · iexact Tf0
  isplitl [HO]; · iexact HO
  iintro ⟨Ct0, Cf0, HO⟩
  rw [wp_bind]
  iapply (part4 m K c _ _ _ _)
  isplitr; · iexact Hg
  isplitl [xt2]; · iexact xt2
  isplitl [dvt1]; · iexact dvt1
  isplitl [Tt1]; · iexact Tt1
  isplitl [xf2]; · iexact xf2
  isplitl [dvf1]; · iexact dvf1
  isplitl [Tf1]; · iexact Tf1
  isplitl [Ct0]; · iexact Ct0
  isplitl [At0]; · iexact At0
  isplitl [HO]; · iexact HO
  iintro ⟨Ct1, Cf1, At0, xt3, HO⟩
  rw [wp_bind]
  iapply (part5 m K c _ _)
  isplitr; · iexact Hg
  isplitl [Ct6]; · iexact Ct6
  isplitl [At6]; · iexact At6
  isplitl [Ct12]; · iexact Ct12
  isplitl [At12]; · iexact At12
  isplitl [drt]; · iexact drt
  isplitl [Tt2]; · iexact Tt2
  isplitl [Cf0]; · iexact Cf0
  isplitl [Af0]; · iexact Af0
  isplitl [HO]; · iexact HO
  iintro ⟨At6, At12, #Rt12, wt0, xt1, Ct2, Af0, xf3, HO⟩
  rw [wp_bind]
  iapply (part6 m K c _ _ _ _)
  isplitr; · iexact Hg
  isplitl [Cf6]; · iexact Cf6
  isplitl [Af6]; · iexact Af6
  isplitl [Cf12]; · iexact Cf12
  isplitl [Af12]; · iexact Af12
  isplitl [HO]; · iexact HO
  iintro ⟨Af6, Af12, #Rf12, wf0, xf1, vf0, HO⟩
  rw [wp_bind]
  iapply (part7 m K c _ _)
  isplitr; · iexact Hg
  isplitl [vf0]; · iexact vf0
  isplitl [drf]; · iexact drf
  isplitl [Tf2]; · iexact Tf2
  isplitl [Ct1]; · iexact Ct1
  isplitl [At1]; · iexact At1
  isplitl [Ct7]; · iexact Ct7
  isplitl [At7]; · iexact At7
  isplitl [Ct13]; · iexact Ct13
  isplitl [At13]; · iexact At13
  isplitl [HO]; · iexact HO
  iintro ⟨Cf2, At1, xt2, At7, vt1, At13, wt1, xt0, HO⟩
  dsimp only
  rw [wp_bind]
  iapply (part8 m K c _ _)
  isplitr; · iexact Hg
  isplitl [vt1]; · iexact vt1
  isplitl [Cf1]; · iexact Cf1
  isplitl [Af1]; · iexact Af1
  isplitl [Cf7]; · iexact Cf7
  isplitl [Af7]; · iexact Af7
  isplitl [Cf13]; · iexact Cf13
  isplitl [Af13]; · iexact Af13
  isplitl [HO]; · iexact HO
  iintro ⟨vt1, Af1, xf2, Af7, vf1, Af13, wf1, xf0, HO⟩
  dsimp only
  rw [wp_bind]
  iapply (part9 m K c _ _)
  isplitr; · iexact Hg
  isplitl [vf1]; · iexact vf1
  isplitl [Ct2]; · iexact Ct2
  isplitl [At2]; · iexact At2
  isplitl [Ct8]; · iexact Ct8
  isplitl [At8]; · iexact At8
  isplitl [vt1]; · iexact vt1
  isplitl [HO]; · iexact HO
  iintro ⟨vf1, At2, vt0, At8, rt, vt1, HO⟩
  rw [wp_bind]
  iapply (part10 m K c _ _)
  isplitr; · iexact Hg
  isplitl [vt1]; · iexact vt1
  isplitl [dot3]; · iexact dot3
  isplitl [Tt3]; · iexact Tt3
  isplitl [dot4]; · iexact dot4
  isplitl [Tt4]; · iexact Tt4
  isplitl [dot0]; · iexact dot0
  isplitl [Lt12b]; · iexact Lt12b
  isplitr; · iexact Rt12
  isplitl [Cf2]; · iexact Cf2
  isplitl [Af2]; · iexact Af2
  isplitl [HO]; · iexact HO
  iintro ⟨Ct3, Ct4, Ct12, Af2, vf0, HO⟩
  rw [wp_bind]
  iapply (part11 m K c _ _ _ _)
  isplitr; · iexact Hg
  isplitl [Cf8]; · iexact Cf8
  isplitl [Af8]; · iexact Af8
  isplitl [vf1]; · iexact vf1
  isplitl [dof3]; · iexact dof3
  isplitl [Tf3]; · iexact Tf3
  isplitl [HO]; · iexact HO
  iintro ⟨Af8, rf, vf1RL, vf1RR, Cf3, HO⟩
  rw [wp_bind]
  iapply (part12 m K c _ _ _ _)
  isplitr; · iexact Hg
  isplitl [vf1RL]; · iexact vf1RL
  isplitl [dof4]; · iexact dof4
  isplitl [Tf4]; · iexact Tf4
  isplitl [vf1RR]; · iexact vf1RR
  isplitl [dof0]; · iexact dof0
  isplitl [Lf12b]; · iexact Lf12b
  isplitr; · iexact Rf12
  isplitl [Ct3]; · iexact Ct3
  isplitl [At3]; · iexact At3
  isplitl [Ct9]; · iexact Ct9
  isplitl [At9]; · iexact At9
  isplitl [HO]; · iexact HO
  iintro ⟨Cf4, Cf12, At3, vt1L, At9, ot1, HO⟩
  rw [wp_bind]
  iapply (part13 m K c _ _ _ _)
  isplitr; · iexact Hg
  isplitl [ot1]; · iexact ot1
  isplitl [dot5]; · iexact dot5
  isplitl [Tt5]; · iexact Tt5
  isplitl [Cf3]; · iexact Cf3
  isplitl [Af3]; · iexact Af3
  isplitl [Cf9]; · iexact Cf9
  isplitl [Af9]; · iexact Af9
  isplitl [dof5]; · iexact dof5
  isplitl [Tf5]; · iexact Tf5
  isplitl [Ct12]; · iexact Ct12
  isplitl [At12]; · iexact At12
  isplitl [HO]; · iexact HO
  iintro ⟨Ct5, Af3, vf1L, Af9, Cf5, At12, ot0, vt1RR, HO⟩
  rw [wp_bind]
  iapply (part14 m K c _ _ _)
  isplitr; · iexact Hg
  isplitl [Cf12]; · iexact Cf12
  isplitl [Af12]; · iexact Af12
  isplitl [Ct4]; · iexact Ct4
  isplitl [At4]; · iexact At4
  isplitl [Ct10]; · iexact Ct10
  isplitl [At10]; · iexact At10
  isplitl [Cf4]; · iexact Cf4
  isplitl [Af4]; · iexact Af4
  isplitl [HO]; · iexact HO
  iintro %r
  iintro ⟨Af12, of0, vf1RR, At4, vt1RL, At10, ot2, Af4, vf1RL, HO⟩
  obtain ⟨_, _⟩ := r
  dsimp only
  rw [wp_bind]
  iapply (part15 m K c _ _ _ _ _ _)
  isplitr; · iexact Hg
  isplitl [Cf10]; · iexact Cf10
  isplitl [Af10]; · iexact Af10
  isplitl [Ct5]; · iexact Ct5
  isplitl [At5]; · iexact At5
  isplitl [Ct11]; · iexact Ct11
  isplitl [At11]; · iexact At11
  isplitl [Cf5]; · iexact Cf5
  isplitl [Af5]; · iexact Af5
  isplitl [HO]; · iexact HO
  iintro ⟨Af10, of2, At5, ot1, At11, ot3, Af5, of1, HO⟩
  iapply (step_wait m K c false 11 0 14 rfl (dut_dma _) (by decide) (oO m c false (pt (!false) (pt false c))) (BI.Entails.refl _)) $$ [Cf11 Af11 HO]
  · isplitr; · iexact Hg
    isplitl [Cf11]; · iexact Cf11
    isplitl [Af11]; · iexact Af11
    iexact HO
  iintro ⟨Af11, -, of3, HO⟩
  rw [wp_ret]; imodintro
  iapply Hk
  unfold Post AtE xS oE vS
  isplitr [HO]
  rotate_left
  · iexact HO
  isplitl [At0 At1 At2 At3 At4 At5 At6 At7 At8 At9 At10 At11 At12 At13]
  · isplitl [At0]; · iexact At0
    isplitl [At1]; · iexact At1
    isplitl [At2]; · iexact At2
    isplitl [At3]; · iexact At3
    isplitl [At4]; · iexact At4
    isplitl [At5]; · iexact At5
    isplitl [At6]; · iexact At6
    isplitl [At7]; · iexact At7
    isplitl [At8]; · iexact At8
    isplitl [At9]; · iexact At9
    isplitl [At10]; · iexact At10
    isplitl [At11]; · iexact At11
    isplitl [At12]; · iexact At12
    iexact At13
  isplitl [Af0 Af1 Af2 Af3 Af4 Af5 Af6 Af7 Af8 Af9 Af10 Af11 Af12 Af13]
  · isplitl [Af0]; · iexact Af0
    isplitl [Af1]; · iexact Af1
    isplitl [Af2]; · iexact Af2
    isplitl [Af3]; · iexact Af3
    isplitl [Af4]; · iexact Af4
    isplitl [Af5]; · iexact Af5
    isplitl [Af6]; · iexact Af6
    isplitl [Af7]; · iexact Af7
    isplitl [Af8]; · iexact Af8
    isplitl [Af9]; · iexact Af9
    isplitl [Af10]; · iexact Af10
    isplitl [Af11]; · iexact Af11
    isplitl [Af12]; · iexact Af12
    iexact Af13
  isplitl [AB]
  · iexact AB
  isplitl [xt0 xt1 xt2 xt3]
  · isplitl [xt0]; · iexact xt0
    isplitl [xt1]; · iexact xt1
    isplitl [xt2]; · iexact xt2
    iexact xt3
  isplitl [xf0 xf1 xf2 xf3]
  · isplitl [xf0]; · iexact xf0
    isplitl [xf1]; · iexact xf1
    isplitl [xf2]; · iexact xf2
    iexact xf3
  isplitl [ot0 ot1 ot2 ot3]
  · isplitl [ot0]; · iexact ot0
    isplitl [ot1]; · iexact ot1
    isplitl [ot2]; · iexact ot2
    iexact ot3
  isplitl [of0 of1 of2 of3]
  · isplitl [of0]; · iexact of0
    isplitl [of1]; · iexact of1
    isplitl [of2]; · iexact of2
    iexact of3
  isplitl [vt0 vt1L vt1RL vt1RR rt wt0 wt1]
  · isplitl [vt0]; · iapply some_intro; iexact vt0
    isplitl [vt1L vt1RL vt1RR]
    · iapply (shares_join c (vM true 1) (fin m true c))
      isplitl [vt1L]; · iexact vt1L
      isplitl [vt1RL]; · iexact vt1RL
      iexact vt1RR
    isplitl [rt]; · iapply some_intro; iexact rt
    isplitl [wt0]; · iapply some_intro; iexact wt0
    iapply some_intro; iexact wt1
  · isplitl [vf0]; · iapply some_intro; iexact vf0
    isplitl [vf1L vf1RL vf1RR]
    · iapply (shares_join c (vM false 1) (fin m false c))
      isplitl [vf1L]; · iexact vf1L
      isplitl [vf1RL]; · iexact vf1RL
      iexact vf1RR
    isplitl [rf]; · iapply some_intro; iexact rf
    isplitl [wf0]; · iapply some_intro; iexact wf0
    iapply some_intro; iexact wf1

end Cert.KernelIdeal.Sum

end
-- ==== Proof.KernelIdeal.Ghost.lean ====
/-
# Setting the semaphores up

Every semaphore's record is opened before the run and each device is handed its places on its own semaphores, the credit
for what others will raise on them, and the rights to pay for what it raises itself; after the run the records are closed
again and every semaphore reads zero.
-/
module

public import proofs.«01_k».proof.Proof.KernelIdeal.Body
public import Idealize.ShloMosaic.Lib.Pipeline.Launch
public import Idealize.ShloMosaic.Lib.Pipeline.Kit

@[expose] public section

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Idealize.ShloMosaic.Ring

variable {F : FTy → Type} [FloatOps F]

local notation "𝕄" => MT nD τ sig Unit (Elt F) ℕ UU ℕ

variable (m : (ℓ : Loc nD τ sig) → Buf (Elt F) ℓ) (K : Dev nD × SemLoc sig → ℕ)

/-! ## Families over the semaphores -/

/-- A side's places, listed. -/
theorem fin14_list (Ψ : Fin 14 → sProp (MT nD τ sig Unit (Elt F) ℕ UU ℕ)) :
    bigSep Finset.univ Ψ = iprop(Ψ 0 ∗ Ψ 1 ∗ Ψ 2 ∗ Ψ 3 ∗ Ψ 4 ∗ Ψ 5 ∗ Ψ 6 ∗ Ψ 7 ∗ Ψ 8 ∗ Ψ 9 ∗ Ψ 10 ∗ Ψ 11 ∗ Ψ 12 ∗ Ψ 13) :=
  bigSep_univ_eq_bigSepL [0, 1, 2, 3, 4, 5, 6, 7, 8, 9, 10, 11, 12, 13] (by decide) (by decide) Ψ
/-- The two sides, listed. -/
theorem bool_list (Ψ : Bool → sProp (MT nD τ sig Unit (Elt F) ℕ UU ℕ)) : bigSep Finset.univ Ψ = iprop(Ψ true ∗ Ψ false) :=
  bigSep_univ_eq_bigSepL [true, false] (by decide) (by decide) Ψ

/-- The DMA semaphores by side and place. -/
def sdE : Bool × Fin 14 ≃ DmaSem sig :=
  ⟨fun p => sd p.1 p.2, ch, fun p => ch_sd p.1 p.2, fun k => sd_ch k⟩

/-- A device's semaphores are the barrier semaphore and the DMA semaphores. -/
theorem sems_all : (Finset.univ : Finset (SemLoc sig)) = insert (SemLoc.reg barS) (Finset.univ.map ⟨fun k : DmaSem sig => SemLoc.dma k, fun _ _ h => SemLoc.dma.inj h⟩) := by
  decide

/-- A family over a device's semaphores is the barrier's and the DMA semaphores'. -/
theorem sem_split (Φ : SemLoc sig → sProp (MT nD τ sig Unit (Elt F) ℕ UU ℕ)) :
    bigSep Finset.univ Φ = iprop(Φ (.reg barS) ∗ bigSep Finset.univ fun k : DmaSem sig => Φ (.dma k)) := by
  rw [sems_all, BI.bigSep_insert (by decide), bigSep_map]; rfl
/-- The DMA semaphores are the two sides'. -/
theorem dma_split (Ψ : DmaSem sig → sProp (MT nD τ sig Unit (Elt F) ℕ UU ℕ)) :
    bigSep Finset.univ Ψ = iprop((bigSep Finset.univ fun j => Ψ (sd true j)) ∗ bigSep Finset.univ fun j => Ψ (sd false j)) := by
  rw [bigSep_univ_equiv sdE, bigSep_univ_prod, bool_list]; rfl

/-! ## The kernel's own semaphores -/

/-- The kernel's own semaphores are all DMA semaphores. -/
abbrev osem : Fin 28 → SemLoc sig := fun k => .dma k
/-- They are distinct, and all that the kernel declares. -/
theorem ownSemFacts : Pipeline.OwnSemFacts cfg0.spec osem := by decide

/-- The one semaphore the kernel does not declare is the barrier's. -/
theorem unscoped_bar (c : Dev nD) : (unscopedSems0 c : sProp 𝕄) = semVal (cell c (.reg barS)) 0 := by
  unfold unscopedSems0; rw [bigSep_eq_bigSepL_of_eq [SemLoc.reg barS] (by decide) (by decide)]; rfl

/-- Together with the barrier semaphore they are all a device has. -/
theorem sems_zero (c : Dev nD) :
    (bigSep Finset.univ fun sm : SemLoc sig => (semVal (cell c sm) 0 : sProp 𝕄))
      = iprop(unscopedSems0 c ∗ Pipeline.ownSems0 (Ix := Unit) (Name := ℕ) (U := UU) (Lvl := ℕ) (Val := Elt F) (τ := τ) osem c) := by
  rw [sem_split, unscoped_bar]; rfl

/-! ## The cells and the rights to pay -/

/-- Every semaphore of every device. -/
def cells : Finset (GSem nD τ sig) :=
  Finset.univ.map ⟨fun p : Dev nD × SemLoc sig => cell p.1 p.2, fun _ _ h => Prod.ext (cell_inj h).1 (cell_inj h).2⟩

/-- The duties on a device's semaphores: to each side 16, one for each place's round 0, one for the first local copy's
    round 1 and one for the barrier. -/
def tk (a : Bool × Fin 16) : SemLoc sig × ℕ × Bool :=
  if a.2.val < 14 then (.dma (sd a.1 ⟨a.2.val % 14, Nat.mod_lt _ (by decide)⟩), 0, true)
  else if a.2.val = 14 then (.dma (sd a.1 12), 1, true) else (.reg barS, 0, a.1)
/-- Each duty is listed once. -/
theorem tk_inj : ∀ a b : Bool × Fin 16, tk a = tk b → a = b := by decide

/-- Every duty of every device. -/
def toks : Finset (GSem nD τ sig × ℕ × Bool) :=
  Finset.univ.map ⟨fun p : Dev nD × (Bool × Fin 16) => (cell p.1 (tk p.2).1, (tk p.2).2), fun p q h => by
    have h1 := cell_inj (congrArg Prod.fst h)
    have h2 : (tk p.2).2 = (tk q.2).2 := congrArg (fun x : GSem nD τ sig × ℕ × Bool => x.2) h
    exact Prod.ext h1.1 (tk_inj _ _ (Prod.ext h1.2 h2))⟩

/-- Which device a duty of device `c`'s stands on: a partner for what arrives by a transfer and for the barrier, itself
    for the rest. -/
def toE (a : Bool × Fin 16) : Dev nD ≃ Dev nD :=
  if 6 ≤ a.2.val ∧ a.2.val < 12 then ptE (dir a.1 ⟨(a.2.val - 6) % 6, Nat.mod_lt _ (by decide)⟩)
  else if a.2.val = 15 then ptE a.1 else Equiv.refl _

/-- The rights to pay on a device's own semaphores, -/
def made (c : Dev nD) : sProp 𝕄 := bigSep Finset.univ fun a : Bool × Fin 16 => dutyTok ER (cell c (tk a).1) (tk a).2.1 (tk a).2.2
/-- and those the device uses. -/
def used (c : Dev nD) : sProp 𝕄 := bigSep Finset.univ fun a : Bool × Fin 16 => dutyTok ER (cell (toE a c) (tk a).1) (tk a).2.1 (tk a).2.2

/-- Dealing the rights out to who uses them. -/
theorem deal : (bigSep Finset.univ fun c : Dev nD => (made c : sProp 𝕄)) = bigSep Finset.univ fun c : Dev nD => used c := by
  unfold made used
  rw [← bigSep_univ_prod (fun p : Dev nD × (Bool × Fin 16) => (dutyTok ER (cell p.1 (tk p.2).1) (tk p.2).2.1 (tk p.2).2.2 : sProp 𝕄)),
    bigSep_univ_equiv (⟨fun p => (toE p.2 p.1, p.2), fun p => ((toE p.2).symm p.1, p.2), fun p => by simp, fun p => by simp⟩ :
      Dev nD × (Bool × Fin 16) ≃ Dev nD × (Bool × Fin 16)), bigSep_univ_prod]
  rfl

/-- A side's sixteen duties, listed. -/
theorem fin16_list (Ψ : Fin 16 → sProp (MT nD τ sig Unit (Elt F) ℕ UU ℕ)) :
    bigSep Finset.univ Ψ = iprop(Ψ 0 ∗ Ψ 1 ∗ Ψ 2 ∗ Ψ 3 ∗ Ψ 4 ∗ Ψ 5 ∗ Ψ 6 ∗ Ψ 7 ∗ Ψ 8 ∗ Ψ 9 ∗ Ψ 10 ∗ Ψ 11 ∗ Ψ 12 ∗ Ψ 13 ∗ Ψ 14 ∗ Ψ 15) :=
  bigSep_univ_eq_bigSepL [0, 1, 2, 3, 4, 5, 6, 7, 8, 9, 10, 11, 12, 13, 14, 15] (by decide) (by decide) Ψ

/-- One side's rights are those its transfers, its copies and its barrier signal use. -/
theorem used_side (c : Dev nD) (s : Bool) :
    (bigSep Finset.univ fun j : Fin 16 => (dutyTok ER (cell (toE (s, j) c) (tk (s, j)).1) (tk (s, j)).2.1 (tk (s, j)).2.2 : sProp 𝕄)) ⊢ TkA c s := by
  rw [fin16_list]
  have own (j : Fin 6) : (dutyTok ER (cell c (.dma (sd s (sn j)))) 0 true : sProp 𝕄) ⊢ dutyTok ER (cell c (.dma (sd s (sn j)))) 0 true := .rfl
  show iprop(dutyTok ER (cell c (.dma (sd s (sn 0)))) 0 true ∗ dutyTok ER (cell c (.dma (sd s (sn 1)))) 0 true
    ∗ dutyTok ER (cell c (.dma (sd s (sn 2)))) 0 true ∗ dutyTok ER (cell c (.dma (sd s (sn 3)))) 0 true
    ∗ dutyTok ER (cell c (.dma (sd s (sn 4)))) 0 true ∗ dutyTok ER (cell c (.dma (sd s (sn 5)))) 0 true
    ∗ dutyTok ER (cell (pt (dir s 0) c) (.dma (sd s (rv 0)))) 0 true ∗ dutyTok ER (cell (pt (dir s 1) c) (.dma (sd s (rv 1)))) 0 true
    ∗ dutyTok ER (cell (pt (dir s 2) c) (.dma (sd s (rv 2)))) 0 true ∗ dutyTok ER (cell (pt (dir s 3) c) (.dma (sd s (rv 3)))) 0 true
    ∗ dutyTok ER (cell (pt (dir s 4) c) (.dma (sd s (rv 4)))) 0 true ∗ dutyTok ER (cell (pt (dir s 5) c) (.dma (sd s (rv 5)))) 0 true
    ∗ dutyTok ER (cell c (.dma (sd s 12))) 0 true ∗ dutyTok ER (cell c (.dma (sd s 13))) 0 true
    ∗ dutyTok ER (cell c (.dma (sd s 12))) 1 true ∗ dutyTok ER (cell (pt s c) (.reg barS)) 0 s) ⊢ (TkA c s : sProp 𝕄)
  unfold TkA TkS TkL
  iintro ⟨S0, S1, S2, S3, S4, S5, R0, R1, R2, R3, R4, R5, L0, L1, L2, B⟩
  isplitl [S0 R0]; · isplitl [S0] <;> iassumption
  isplitl [S1 R1]; · isplitl [S1] <;> iassumption
  isplitl [S2 R2]; · isplitl [S2] <;> iassumption
  isplitl [S3 R3]; · isplitl [S3] <;> iassumption
  isplitl [S4 R4]; · isplitl [S4] <;> iassumption
  isplitl [S5 R5]; · isplitl [S5] <;> iassumption
  isplitl [L0]; · iexact L0
  isplitl [L1]; · iexact L1
  isplitl [L2]; · iexact L2
  iexact B

/-- The rights a device uses, as the body takes them. -/
theorem used_split (c : Dev nD) : (used c : sProp 𝕄) ⊢ iprop(TkA c true ∗ TkA c false) := by
  unfold used
  rw [bigSep_univ_prod, bool_list]
  iintro ⟨H1, H2⟩
  isplitl [H1]
  · iapply (used_side c true); iexact H1
  · iapply (used_side c false); iexact H2

/-! ## Before the run -/

/-- What the schedule starts out with. -/
def u₀ : UU :=
  (initOf (Pipeline.cells cfgs cellOf_inj) (Pipeline.launchToks cfgs cellOf_inj), initOf cells toks)

/-- A device's places at the start. -/
def places (c : Dev nD) : sProp 𝕄 := bigSep Finset.univ fun sm : SemLoc sig => atPos ER (cell c sm) 0 ∅ 0
/-- A device's share of it. -/
def G (c : Dev nD) : sProp 𝕄 :=
  iprop((bigSep Finset.univ fun sm : SemLoc sig => roundState ER (Rd m) (cell c sm) 0) ∗ places c
    ∗ (bigSep Finset.univ fun sm : SemLoc sig => reached ER (cell c sm) 0) ∗ made c)
/-- Every semaphore's record open. -/
def opened : sProp 𝕄 :=
  iprop((bigSep Finset.univ fun p : Dev nD × SemLoc sig => cellInv ER (Rd m) (K p) (cell p.1 p.2))
    ∗ bigSep Finset.univ fun p : Dev nD × SemLoc sig => reached ER (cell p.1 p.2) 0)
/-- Open records stay open. -/
instance opened_persistent : BI.Persistent (opened m K) := by unfold opened; infer_instance
/-- What a device has once the records are open. -/
def G' (c : Dev nD) : sProp 𝕄 := iprop(∃ K, opened m K ∗ places c ∗ TkA c true ∗ TkA c false)

/-- A family over all semaphores, device by device. -/
theorem cells_fam (Φ : GSem nD τ sig → sProp (MT nD τ sig Unit (Elt F) ℕ UU ℕ)) :
    bigSep cells Φ = bigSep Finset.univ fun c : Dev nD => bigSep Finset.univ fun sm : SemLoc sig => Φ (cell c sm) := by
  unfold cells; rw [bigSep_map, bigSep_univ_prod]; rfl
/-- The rights to pay for all duties, device by device. -/
theorem toks_fam : bigSep toks (fun x => (dutyTok ER x.1 x.2.1 x.2.2 : sProp 𝕄)) = bigSep Finset.univ fun c : Dev nD => made c := by
  unfold toks made; rw [bigSep_map, bigSep_univ_prod]; rfl

/-- The records' starting state gives every device its share. -/
theorem fund_all : BI.own (ER (initOf cells toks)) ⊢ (|==> bigSep Finset.univ (G m) : sProp 𝕄) := by
  iintro HX
  imod (Rounds.fund ER (Rd m) cells toks) $$ HX with ⟨Hst, Hr, Hat, Htok⟩
  imodintro
  ihave Hst := (Entails.of_eq (cells_fam fun g => roundState ER (Rd m) g 0)) $$ Hst
  ihave Hat := (Entails.of_eq (cells_fam fun g => atPos ER g 0 ∅ 0)) $$ Hat
  ihave Hr := (Entails.of_eq (cells_fam fun g => reached ER g 0)) $$ Hr
  ihave Htok := (Entails.of_eq toks_fam) $$ Htok
  unfold G places; simp only [bigSep_sep']
  isplitl [Hst]; · iexact Hst
  isplitl [Hat]; · iexact Hat
  isplitl [Hr]; · iexact Hr
  iexact Htok

/-- One device's records open. -/
theorem open_one (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun sm : SemLoc sig => iprop(∃ κ : ℕ, cellInv ER (Rd m) κ (cell c sm))) ∗ places c
          ∗ (bigSep Finset.univ fun sm : SemLoc sig => reached ER (cell c sm) 0) ∗ made c) := by
  unfold G
  iintro ⟨Hos, Hus, Hst, Hrest⟩
  ihave Hv := (Entails.of_eq (sems_zero (F := F) c).symm) $$ [Hos Hus]
  · isplitl [Hus] <;> iassumption
  imod (show iprop((bigSep Finset.univ fun sm : SemLoc sig => semVal (cell c sm) 0) ∗ bigSep Finset.univ fun sm : SemLoc sig => roundState ER (Rd m) (cell c sm) 0)
      ⊢ (|={Set.univ}=> bigSep Finset.univ fun sm : SemLoc sig => iprop(∃ κ : ℕ, cellInv ER (Rd m) κ (cell c sm)) : sProp 𝕄) from by
        rw [← bigSep_sep']
        exact (bigSep_mono fun sm _ => (Rounds.body_intro ER (Rd m) (cell c sm)).trans inv_alloc).trans (bigSep_fupd _ _)) $$ [Hv Hst] with Hinv
  · isplitl [Hv] <;> iassumption
  imodintro
  isplitl [Hinv]; · iexact Hinv
  iexact Hrest

/-- A device's share with the records open. -/
theorem share_intro (c : Dev nD) : iprop(opened m K ∗ places c ∗ used c) ⊢ G' m c := by
  unfold G'
  iintro ⟨#HO, HP, HU⟩
  iexists K
  isplitr; · iexact HO
  isplitl [HP]; · iexact HP
  iapply (used_split c); iexact HU

/-- A fact that stays true serves each member of a family. -/
theorem fam_with {I : Type} [DecidableEq I] (S : Finset I) (R : sProp (MT nD τ sig Unit (Elt F) ℕ UU ℕ)) [BI.Persistent R]
    {Φ Ψ : I → sProp (MT nD τ sig Unit (Elt F) ℕ UU ℕ)} (h : ∀ i, iprop(R ∗ Φ i) ⊢ Ψ i) : iprop(R ∗ bigSep S Φ) ⊢ bigSep S Ψ := by
  have h' : bigSep S (fun i => iprop(R ∗ Φ i)) ⊢ bigSep S Ψ := bigSep_mono fun i _ => h i
  rw [bigSep_sep'] at h'
  iintro ⟨#HR, H⟩
  iapply h'
  isplitr
  · iapply (BI.bigSep_of_persistent S R); iexact HR
  · iexact H

/-- With every device's records open, each device has what it needs of all of them. -/
theorem regroup :
    (bigSep Finset.univ fun c : Dev nD => iprop((bigSep Finset.univ fun sm : SemLoc sig => iprop(∃ κ : ℕ, cellInv ER (Rd m) κ (cell c sm))) ∗ places c
          ∗ (bigSep Finset.univ fun sm : SemLoc sig => reached ER (cell c sm) 0) ∗ made c) : sProp 𝕄)
      ⊢ bigSep Finset.univ (G' m) := by
  rw [bigSep_sep', bigSep_sep', bigSep_sep', ← bigSep_univ_prod (fun p : Dev nD × SemLoc sig => iprop(∃ κ : ℕ, cellInv ER (Rd m) κ (cell p.1 p.2))),
    ← bigSep_univ_prod (fun p : Dev nD × SemLoc sig => (reached ER (cell p.1 p.2) 0 : sProp 𝕄)), deal]
  iintro ⟨HI, Hat, #HR, Htok⟩
  ihave HK := (BI.bigSep_exists_pi Finset.univ (fun (p : Dev nD × SemLoc sig) (κ : ℕ) => (cellInv ER (Rd m) κ (cell p.1 p.2) : sProp 𝕄))) $$ HI
  icases HK with ⟨%K, #HI⟩
  iapply (fam_with Finset.univ (opened m K) fun c => share_intro m K c)
  isplitr
  · unfold opened; isplitl; · iexact HI
    iexact HR
  · rw [bigSep_sep']
    isplitl [Hat]; · iexact Hat
    iexact Htok

/-- All records open at once. -/
theorem open_all : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_one m c).trans (bigSep_fupd _ _)).trans (BI.fupd_mono (regroup m))

/-- A device's places, side by side. -/
theorem places_split (c : Dev nD) : (places c : sProp 𝕄) ⊢ iprop(AtS c true ∗ AtS c false ∗ atPos ER (cell c (.reg barS)) 0 ∅ 0) := by
  unfold places
  rw [sem_split, dma_split, fin14_list, fin14_list]
  unfold AtS At
  iintro ⟨B, T, F'⟩
  isplitl [T]; · iexact T
  isplitl [F']; · iexact F'
  iexact B

/-! ## The credit -/

/-- What device `c` owes at the start. -/
abbrev O₀ (c : Dev nD) : CellTallies nD τ sig Unit := ow 0 c

/-- The credit for a semaphore at launch is all that the devices are to raise it by. -/
theorem credit_at (c : Dev nD) (sm : SemLoc sig) :
    tallyOn (cell c sm) (launchCredit (Pipeline.owing O₀) 0 (cell c sm)) = (tallyAt (cell c sm) () (cnt stepL sm * wt sm) : CellTallies nD τ sig Unit) := by
  unfold tallyAt; refine congrArg _ (Finsupp.ext fun u => ?_); cases u
  rw [Pipeline.launchCredit_owing, Finsupp.single_eq_same]
  exact owL_sum stepL c sm

/-- Each semaphore on which a transfer lands is raised once. -/
theorem cnt_rv (s : Bool) (i : Fin 6) : cnt stepL (.dma (sd s (rv i))) = 1 := by revert s i; decide

/-- So there is credit for one block on it. -/
theorem credit_rv (c : Dev nD) (s : Bool) (i : Fin 6) :
    cred (tallyOn (cell c (.dma (sd s (rv i)))) (launchCredit (Pipeline.owing O₀) 0 (cell c (.dma (sd s (rv i)))))) ⊢ (Cr c s (rv i) : sProp 𝕄) := by
  rw [credit_at, cnt_rv, Nat.one_mul]; exact .rfl

/-- One side's credit: six blocks arrive. -/
theorem credit_side (c : Dev nD) (s : Bool) :
    (bigSep Finset.univ fun j : Fin 14 => (cred (tallyOn (cell c (.dma (sd s j))) (launchCredit (Pipeline.owing O₀) 0 (cell c (.dma (sd s j))))) : sProp 𝕄)) ⊢ CrS c s := by
  rw [fin14_list]
  unfold CrS
  iintro ⟨-, -, -, -, -, -, C0, C1, C2, C3, C4, C5, -, -⟩
  isplitl [C0]; · iapply (credit_rv c s 0); iexact C0
  isplitl [C1]; · iapply (credit_rv c s 1); iexact C1
  isplitl [C2]; · iapply (credit_rv c s 2); iexact C2
  isplitl [C3]; · iapply (credit_rv c s 3); iexact C3
  isplitl [C4]; · iapply (credit_rv c s 4); iexact C4
  iapply (credit_rv c s 5); iexact C5

/-- A device's credit at launch: six blocks on either side, and two signals. -/
theorem credits (c : Dev nD) :
    (Pipeline.launchCred O₀ c : sProp 𝕄) ⊢ iprop(CrS c true ∗ CrS c false ∗ cred (tallyAt (cell c (.reg barS)) () 2)) := by
  unfold Pipeline.launchCred
  rw [sem_split, dma_split, credit_at c (.reg barS), show cnt stepL (.reg barS) * wt (.reg barS) = 2 from by decide]
  iintro ⟨B, T, F'⟩
  isplitl [T]; · iapply (credit_side c true); iexact T
  isplitl [F']; · iapply (credit_side c false); iexact F'
  iexact B

/-! ## After the run -/

/-- The rounds a semaphore has. -/
def lastR (sm : SemLoc sig) : ℕ := match sm with
  | .reg _ => 1
  | .dma k => if (ch k).2 = 12 then 2 else 1

/-- A semaphore has no duty from its last round on. -/
theorem dut_last (sm : SemLoc sig) (r : ℕ) (h : lastR sm ≤ r) : dut sm r = ∅ := by
  cases sm with
  | reg _ => exact if_neg (show ¬ r = 0 from by have h : 1 ≤ r := h; omega)
  | dma k =>
    have h : (if (ch k).2 = 12 then 2 else 1) ≤ r := h
    unfold dut
    refine if_neg fun hr => ?_
    by_cases hk : (ch k).2 = 12
    · simp only [if_pos hk] at h; omega
    · simp only [if_neg hk] at h
      rcases hr with hr | hr
      · omega
      · exact hk hr.2

/-- A device's places at the end. -/
theorem places_end (c : Dev nD) :
    iprop(AtE c true ∗ AtE c false ∗ atPos ER (cell c (.reg barS)) 1 ∅ 0) ⊢ (bigSep Finset.univ fun sm : SemLoc sig => atPos ER (cell c sm) (lastR sm) ∅ 0 : sProp 𝕄) := by
  have hs (s : Bool) : (AtE c s : sProp 𝕄) ⊢ bigSep Finset.univ fun j : Fin 14 => atPos ER (cell c (.dma (sd s j))) (lastR (.dma (sd s j))) ∅ 0 := by
    have hl (j : Fin 14) : lastR (.dma (sd s j)) = if j = 12 then 2 else 1 := by
      show (if (ch (sd s j)).2 = 12 then 2 else 1) = _; rw [ch_sd]
    simp only [hl]
    rw [fin14_list]
    unfold AtE At
    exact .rfl
  rw [sem_split, dma_split]
  iintro ⟨T, F', B⟩
  isplitl [B]; · iexact B
  isplitl [T]; · iapply (hs true); iexact T
  iapply (hs false); iexact F'

/-- At the end the records close and every semaphore of the device reads zero. -/
theorem close_all (c : Dev nD) :
    iprop(env m K ∗ AtE c true ∗ AtE c false ∗ atPos ER (cell c (.reg barS)) 1 ∅ 0)
      ⊢ |={Set.univ}=> (bigSep Finset.univ fun sm : SemLoc sig => semVal (cell c sm) 0 : sProp 𝕄) := by
  iintro ⟨#HE, H⟩
  ihave H := (places_end c) $$ H
  iapply (show iprop(env m K ∗ bigSep Finset.univ fun sm : SemLoc sig => atPos ER (cell c sm) (lastR sm) ∅ 0)
      ⊢ |={Set.univ}=> (bigSep Finset.univ fun sm : SemLoc sig => semVal (cell c sm) 0 : sProp 𝕄) from
    (fam_with Finset.univ (env m K) fun sm => by
      iintro ⟨#HE, H⟩
      iapply (Rounds.cell_close ER (Rd m) (g := cell c sm) (κ := K (c, sm)) (Set.mem_univ _) (fun h => h) (R := lastR sm) (fun r hr => dut_last sm r hr))
      isplitr; · iapply (env_inv m K c sm); iexact HE
      iexact H).trans (bigSep_fupd _ _))
  isplitr; · iexact HE
  iexact H

end Cert.KernelIdeal.Sum

end
-- ==== Proof.KernelIdeal.Launch.lean ====
/-
# The run

The kernel launched on the four devices: it ends, its input is unchanged, every device's result holds the sums, and every
semaphore reads zero.
-/
module

public import proofs.«01_k».proof.Proof.KernelIdeal.Ghost
public import proofs.«01_k».proof.Proof.Gen.KernelIdeal.Launch
public import proofs.«01_k».proof.Proof.Gen.KernelIdeal.Points
public import Idealize.ShloMosaic.Lib.Pipeline.CollectiveSegs

@[expose] public section

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Idealize.ShloMosaic.Ring

variable {F : FTy → Type} [FloatOps F]

local notation "𝕄" => MT nD τ sig Unit (Elt F) ℕ UU ℕ

variable (m : (ℓ : Loc nD τ sig) → Buf (Elt F) ℓ) (K : Dev nD × SemLoc sig → ℕ)

/-! ## The buffers, block by block -/

/-- A family over the devices, seen from device `c` and side `s`. -/
theorem dev_list (s : Bool) (c : Dev nD) (Ψ : Dev nD → sProp (MT nD τ sig Unit (Elt F) ℕ UU ℕ)) :
    bigSep Finset.univ Ψ = iprop(Ψ c ∗ Ψ (pt (!s) c) ∗ Ψ (pt s c) ∗ Ψ (pt (!s) (pt s c))) :=
  bigSep_univ_eq_bigSepL [c, pt (!s) c, pt s c, pt (!s) (pt s c)] (by revert s c; decide) (by revert s c; decide) Ψ

/-- The whole input is the blocks of the two sides. -/
theorem x_sides (c : Dev nD) :
    (((c : Thread nD τ).loc main_arg0) ↦{fullShare} m ((c : Thread nD τ).loc main_arg0) : sProp 𝕄) = iprop(xS m c true ∗ xS m c false) := by
  rw [x_split, bigSep_univ_prod, bool_list, dev_list true c, dev_list false c]; rfl
/-- The whole result, at any contents, is the blocks of the two sides. -/
theorem o_sides (c : Dev nD) (f : Buf (Elt F) ((c : Thread nD τ).loc main_v1)) :
    (((c : Thread nD τ).loc main_v1) ↦{fullShare} f : sProp 𝕄) ⊢ iprop(oS c true ∗ oS c false) := by
  have h := o_split c f
  rw [bigSep_univ_prod, bool_list, dev_list true c, dev_list false c] at h
  exact h
/-- The blocks of the two sides at their sums are the whole result at the sums. -/
theorem o_whole (c : Dev nD) :
    iprop(oE m c true ∗ oE m c false) ⊢ (((c : Thread nD τ).loc main_v1) ↦{fullShare} outV m : sProp 𝕄) := by
  have h := o_join m c
  rw [bigSep_univ_prod, bool_list, dev_list true c, dev_list false c] at h
  exact h

/-- The kernel's buffers are those of the two sides, -/
theorem rest_sides (c : Dev nD) :
    (Pipeline.scopedRest (Ix := Unit) (Name := ℕ) (U := UU) (Lvl := ℕ) (Val := Elt F) cfg0.spec c : sProp 𝕄) ⊢ iprop(vS c true ∗ vS c false) := by
  rw [scopedRest0_eq]
  simp only [some_whole c cc0_scratch2, some_whole c cc0_scratch3, some_whole c cc0_scratch4, some_whole c cc0_scratch5, some_whole c cc0_scratch6,
    some_whole c cc0_scratch7]
  unfold vS
  iintro ⟨H0, H1, H2, H3, H4, H5, H6, H7⟩
  ihave H0 := (v_split true c) $$ H0
  ihave H1 := (v_split false c) $$ H1
  icases H0 with ⟨T0, T1⟩
  icases H1 with ⟨F0, F1⟩
  isplitl [T0 T1 H2 H4 H5]
  · isplitl [T0]; · iexact T0
    isplitl [T1]; · iexact T1
    isplitl [H2]; · iexact H2
    isplitl [H4]; · iexact H4
    iexact H5
  · isplitl [F0]; · iexact F0
    isplitl [F1]; · iexact F1
    isplitl [H3]; · iexact H3
    isplitl [H6]; · iexact H6
    iexact H7

/-- and the other way round. -/
theorem sides_rest (c : Dev nD) :
    iprop(vS c true ∗ vS c false) ⊢ (Pipeline.scopedRest (Ix := Unit) (Name := ℕ) (U := UU) (Lvl := ℕ) (Val := Elt F) cfg0.spec c : sProp 𝕄) := by
  rw [scopedRest0_eq]
  simp only [some_whole c cc0_scratch2, some_whole c cc0_scratch3, some_whole c cc0_scratch4, some_whole c cc0_scratch5, some_whole c cc0_scratch6,
    some_whole c cc0_scratch7]
  unfold vS
  iintro ⟨⟨T0, T1, H2, H4, H5⟩, F0, F1, H3, H6, H7⟩
  have hT := v_join (F := F) c (Memref.whole cc0_scratch0)
  have hF := v_join (F := F) c (Memref.whole cc0_scratch1)
  rw [show (Memref.whole cc0_scratch0).view.set = Finset.univ from View.set_whole _] at hT
  rw [show (Memref.whole cc0_scratch1).view.set = Finset.univ from View.set_whole _] at hF
  isplitl [T0 T1]
  · iapply hT
    isplitl [T0]; · iexact T0
    iexact T1
  isplitl [F0 F1]
  · iapply hF
    isplitl [F0]; · iexact F0
    iexact F1
  isplitl [H2]; · iexact H2
  isplitl [H3]; · iexact H3
  isplitl [H4]; · iexact H4
  isplitl [H5]; · iexact H5
  isplitl [H6]; · iexact H6
  iexact H7

/-! ## What the launch holds -/

/-- What a device starts with, its side buffers apart. -/
def held (c : Dev nD) : sProp 𝕄 :=
  iprop(∃ K, env m K ∗ (AtS c true ∗ AtS c false ∗ atPos ER (cell c (.reg barS)) 0 ∅ 0)
    ∗ (CrS c true ∗ CrS c false ∗ cred (tallyAt (cell c (.reg barS)) () 2))
    ∗ (TkA c true ∗ TkA c false) ∗ (xS m c true ∗ xS m c false) ∗ oS c true ∗ oS c false)
/-- Before the body, -/
def Φ₀ (c : Dev nD) : sProp 𝕄 := iprop(∃ K, env m K ∗ Pre m c)
/-- and after it. -/
def Φ₁ (c : Dev nD) : sProp 𝕄 :=
  iprop((bigSep Finset.univ fun sm : SemLoc sig => semVal (cell c sm) 0)
    ∗ (((c : Thread nD τ).loc main_arg0) ↦{fullShare} m ((c : Thread nD τ).loc main_arg0))
    ∗ (((c : Thread nD τ).loc main_v1) ↦{fullShare} outV m) ∗ vS c true ∗ vS c false)
/-- What is left of a device at the end. -/
def left (c : Dev nD) : sProp 𝕄 :=
  iprop(unscopedSems0 c ∗ (((c : Thread nD τ).loc main_arg0) ↦{fullShare} m ((c : Thread nD τ).loc main_arg0))
    ∗ (((c : Thread nD τ).loc main_v1) ↦{fullShare} outV m))

/-- The kernel's one step: what holds before and after it, and what is owed then. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- There is no window, so nothing to say of its share. -/
theorem share_eq (c : Dev nD) (w : Fin cfg0.W) : (dats m 0 c).share w = fullShare := w.elim0

/-- The body takes a device from the one to the other. -/
theorem body_step (c : Dev nD) {Kt : PUnit → sProp (MT nD τ sig Unit (Elt F) ℕ UU ℕ)} :
    iprop(Φ₀ m c ∗ Ow c 0 ∗ ((Φ₁ m c ∗ Ow c 14) -∗ Kt ⟨⟩))
      ⊢ wp frame (wpE (defs₀ (F := F)) 𝒱₀ (c : Thread nD τ) none) Set.univ (app cc0_body) Kt := by
  unfold Φ₀
  iintro ⟨⟨%K, #HE, HP⟩, HO, Hk⟩
  iapply wp_fupd
  iapply (body_wp m K c)
  isplitr; · iexact HE
  isplitl [HP]; · iexact HP
  isplitl [HO]; · iexact HO
  iintro ⟨HP, HO⟩
  unfold Post
  icases HP with ⟨A1, A2, A3, X1, X2, O1, O2, V1, V2⟩
  imod (close_all m K c) $$ [A1 A2 A3] with HS
  · isplitr; · iexact HE
    isplitl [A1]; · iexact A1
    isplitl [A2]; · iexact A2
    iexact A3
  imodintro
  iapply Hk
  isplitr [HO]
  · unfold Φ₁
    isplitl [HS]; · iexact HS
    isplitl [X1 X2]
    · rw [x_sides]; isplitl [X1] <;> iassumption
    isplitl [O1 O2]
    · iapply (o_whole m c); isplitl [O1] <;> iassumption
    isplitl [V1] <;> iassumption
  · iexact HO

/-- The body does what the launch asks of its one step. -/
theorem body_obligation (c : Dev nD) : BodyObligation (dats (F := F) m 0 c) (defs₀ (F := F)) 𝒱₀ () Set.univ := fun t => by
  rw [fin_N0 t]
  have hemp (Φ : Fin cfg0.W → sProp (MT nD τ sig Unit (Elt F) ℕ UU ℕ)) : bigSep Finset.univ Φ = BIBase.emp := BI.bigSep_empty
  rw [hemp, hemp]
  show iprop(Φ₀ m c ∗ (dats m 0 c).owesAt () t0_0.castSucc ∗ emp) ⊢ wp frame (wpE (defs₀ (F := F)) 𝒱₀ (c : Thread nD τ) none) Set.univ
    (app cc0_body) (fun _ => iprop(Φ₁ m c ∗ (dats m 0 c).owesAt () t0_0.succ ∗ emp))
  unfold Dat.owesAt Pipeline.owesWithin
  rw [show (dats m 0 c).owed t0_0.castSucc = ow 0 c from rfl, show (dats m 0 c).owed t0_0.succ = ow 14 c from rfl]
  iintro ⟨HΦ, ⟨%W, -, HO⟩, -⟩
  iapply (body_step m c)
  unfold Ow
  isplitl [HΦ]; · iexact HΦ
  isplitl [HO]; · iexists W; iexact HO
  · iintro ⟨HΦ, HO⟩
    icases HO with ⟨%W', HO⟩
    isplitl [HΦ]; · iexact HΦ
    isplitl [HO]
    · iexists W'
      isplitr; · ipureintro; exact fun _ _ => Or.inl trivial
      iexact HO
    · iempintro

/-! ## The launch -/

/-- What the launch hands a device is what the kernel is entered with. -/
theorem held_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(held m c ∗ emp) := by
  rw [unscopedRestP_none, unscopedRest0_eq, x_sides]
  unfold G' held
  iintro ⟨⟨HX, HV⟩, HL, HC, -, ⟨%K, HK, HP, HT⟩⟩
  imodintro
  isplitl
  · iexists K
    isplitl [HK HL]
    · unfold opened env
      icases HK with ⟨H1, H2⟩
      isplitl [H1]; · iexact H1
      isplitl [H2]; · iexact H2
      iexact HL
    isplitl [HP]; · iapply (places_split c); iexact HP
    isplitl [HC]; · iapply (credits c); iexact HC
    isplitl [HT]; · iexact HT
    isplitl [HX]; · iexact HX
    iapply (o_sides c _); iexact HV
  · iempintro

/-- Together with the kernel's buffers that is what holds before the body. -/
theorem start_intro (c : Dev nD) :
    iprop(held m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold held Φ₀ Pre
  iintro ⟨⟨%K, HE, ⟨A1, A2, A3⟩, ⟨C1, C2, C3⟩, ⟨T1, T2⟩, ⟨X1, X2⟩, O1, O2⟩, -, HR⟩
  iexists K
  isplitl [HE]; · iexact HE
  isplitl [A1]; · iexact A1
  isplitl [A2]; · iexact A2
  isplitl [A3]; · iexact A3
  isplitl [C1]; · iexact C1
  isplitl [C2]; · iexact C2
  isplitl [C3]; · iexact C3
  isplitl [T1]; · iexact T1
  isplitl [T2]; · iexact T2
  isplitl [X1]; · iexact X1
  isplitl [X2]; · iexact X2
  isplitl [O1]; · iexact O1
  isplitl [O2]; · iexact O2
  iapply (rest_sides c); iexact HR

/-- What holds after the body gives the buffers and the semaphores back. -/
theorem end_elim (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl]
  unfold Φ₁ left
  rw [sems_zero]
  iintro ⟨⟨HU, HS⟩, HX, HV, HR⟩
  isplitl [HU HX HV]
  · isplitl [HU]; · iexact HU
    isplitl [HX]; · iexact HX
    iexact HV
  isplitl [HS]; · iexact HS
  iapply (sides_rest c); iexact HR

/-- There is no window to wait for. -/
theorem waits (c : Dev nD) : (levAts L lv : sProp 𝕄) ⊢ Pipeline.cellsWaits cfgs (dats m) () 0 c :=
  Pipeline.cellsWaits_intro cfgs (dats m) () 0 c fun w s t => w.elim0

set_option maxRecDepth 8000 in
/-- From any memory with all semaphores at zero the four devices' kernels end; then every device's input is what it was,
    every device's result holds the sums, and every semaphore reads zero. -/
theorem run_main (ρ : Dev nD → PrngReg) :
    θ_run defs (onTc (τ := τ) (main (F := F))) ⟨m, fun _ => 0, ρ⟩ (fun r =>
      (∀ c : Dev nD, r.2.mem ((c : Thread nD τ).loc main_v1) = outV m ∧ r.2.mem ((c : Thread nD τ).loc main_arg0) = m ((c : Thread nD τ).loc main_arg0))
        ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := open_all m)
    (hA := fun _ w => w.elim0) (hpf := fun _ k => k.elim0)
    (X := held m) (Y := left m) (Z := fun _ => iprop(emp))
    (hX := held_intro m ρ) (hin := start_intro m) (hout := end_elim m)
    (QY := fun c s => (s.mem ((c : Thread nD τ).loc main_v1) = outV m ∧ s.mem ((c : Thread nD τ).loc main_arg0) = m ((c : Thread nD τ).loc main_arg0))
      ∧ ∀ sm : SemLoc sig, sm.isScoped .tc = false → s.sem ((c.tc : Thread nD τ), sm) = 0)
    (hY := fun c s' => by
      unfold left
      iintro ⟨⟨Hu, Hx, Hv⟩, -, HSI⟩
      icombine HSI Hx gives %hx
      icombine HSI Hv gives %hv
      imod (Pipeline.unscopedSems0_read (X := unscopedSems0 c) (c := c) fupd_intro s') $$ [Hu HSI] with ⟨%hz, HSI⟩
      · isplitl [Hu] <;> iassumption
      imodintro
      isplitr; · ipureintro; exact ⟨⟨Buf.eq_of_forall_mem_univ hv, Buf.eq_of_forall_mem_univ hx⟩, hz⟩
      iexact HSI)
    (hQ := fun _ h hs => ⟨fun c => (h c).2.2.1, sem_eq_zero hs fun c => (h c).2.2.2⟩)

end Cert.KernelIdeal.Sum

end
-- ==== Proof.Value.lean ====
/-
# What the result is

In exact arithmetic a block's sum does not depend on which device adds in which order, so the kernel's result is the
reference's sum of the four devices' inputs.
-/
module

public import proofs.«01_k».proof.Proof.KernelIdeal.Contents
public import proofs.«01_k».proof.Proof.Gen.ReferenceIdeal.Run
public import Idealize.ShloMosaic.Lib.IdealHost
public import Idealize.ShloMosaic.Lib.Layout
public import Idealize.ShloMosaic.Lib.ValueLayout
public import Idealize.ShloMosaic.Lib.Pointwise.Reduce
public import Idealize.ShloMosaic.PureOps.Ideal.Laws

@[expose] public section

noncomputable section

namespace Cert.KernelIdeal.Sum

open Cert.KernelIdeal Cert.KernelIdeal.Gen
open Idealize.ShloMosaic
open Idealize.ShloMosaic.TcCoe
open Idealize.ShloMosaic.ValueIdx (hostReduceAdd_apply reshapeEquiv_ix2_11ab)

/-- The whole array, one slab for each device. -/
abbrev Whole : Shape := ⟨4, ![2, 2, 4096, 2048]⟩
/-- One device's slab. -/
abbrev Slab : Shape := ⟨4, ![1, 1, 4096, 2048]⟩

/-- Where element `i` of device `c`'s slab lies in the whole array. -/
def at' (c : Dev nD) (i : S4096x2048.Idx) : Whole.Idx :=
  ix4 (n0 := 2) (n1 := 2) (n2 := 4096) (n3 := 2048) ⟨c.val / 2, by have : c.val < 4 := c.isLt; omega⟩ ⟨c.val % 2, Nat.mod_lt _ (by decide)⟩ (i 0) (i 1)

/-! ## The reference -/

/-- The elements the reference adds into `i` are the four devices'. -/
theorem drop_iff (h : Whole.ReducesTo [0, 1] S4096x2048) (i : S4096x2048.Idx) (k : Whole.Idx) :
    h.drop k = i ↔ ∃ c : Dev nD, at' c i = k := by
  constructor
  · rintro rfl
    have h0 : (k 0).val < 2 := (k 0).isLt
    have h1 : (k 1).val < 2 := (k 1).isLt
    refine ⟨(⟨2 * (k 0).val + (k 1).val, by omega⟩ : Fin 4), ?_⟩
    funext a; apply Fin.ext
    match a with
    | ⟨0, _⟩ => show (2 * (k 0).val + (k 1).val) / 2 = (k 0).val; omega
    | ⟨1, _⟩ => show (2 * (k 0).val + (k 1).val) % 2 = (k 1).val; omega
    | ⟨2, _⟩ => rfl
    | ⟨3, _⟩ => rfl
  · rintro ⟨c, rfl⟩
    funext b; apply Fin.ext
    match b with
    | ⟨0, _⟩ => rfl
    | ⟨1, _⟩ => rfl

/-- The devices' slabs lie apart. -/
theorem at'_inj (i : S4096x2048.Idx) : Function.Injective fun c : Dev nD => at' c i := by
  intro c d e
  have e0 : c.val / 2 = d.val / 2 := congrArg (fun k : Whole.Idx => (k 0).val) e
  have e1 : c.val % 2 = d.val % 2 := congrArg (fun k : Whole.Idx => (k 1).val) e
  exact Fin.ext (by omega)

/-- The reference's result at `i` is the sum of the four devices' elements there. -/
theorem ref_apply (X : Whole.Idx → EReal) (h : Whole.ReducesTo [0, 1] S4096x2048) (hu : 0 < (⟨0, ![]⟩ : Shape).numel) (i : S4096x2048.Idx) :
    Host.reduceAdd (F := Ideal) (φ := .f32) X (constant (F := Ideal) ⟨0, ![]⟩ .f32 0x00000000#32) h hu i = ∑ c : Dev nD, X (at' c i) := by
  rw [hostReduceAdd_apply]
  have h0 : (constant (F := Ideal) ⟨0, ![]⟩ .f32 0x00000000#32) (Shape.Idx.first hu) = (0 : EReal) := Ideal.ofBits_zero_f32
  rw [h0]
  show (0 : EReal) + ∑ k ∈ Finset.univ.filter (fun k => h.drop k = i), X k = _
  rw [zero_add]
  exact Finset.sum_filter_eq_sum_of_fiber _ (fun c : Dev nD => at' c i) (at'_inj i) (drop_iff h i) X

/-! ## The kernel -/

/-- A block of a device's input, element by element. -/
theorem xb_apply (X : Whole.Idx → EReal) (m : (ℓ : Loc nD τ sig) → Buf (Elt Ideal) ℓ) (c : Dev nD)
    (h : m ((c : Thread nD τ).loc main_arg0) = Layout.blockN Slab Whole (Layout.meshBlock [2, 2] ![[0], [1], [], []] c) X)
    (i : S4096x2048.Idx) : xb m c (blkOf i) (inBlk i) = X (at' c i) := by
  have hx : xb m c (blkOf i) (inBlk i)
      = m ((c : Thread nD τ).loc main_arg0) ((xR (blkOf i)).emb (Shape.reshapeEquiv squeezes_S1x1x512x2048_S512x2048.numel_eq (inBlk i))) := rfl
  rw [hx, h, Layout.blockN_apply]
  have hr : Shape.reshapeEquiv squeezes_S1x1x512x2048_S512x2048.numel_eq (inBlk i)
      = ix4 (n0 := 1) (n1 := 1) (n2 := 512) (n3 := 2048) ⟨0, Nat.one_pos⟩ ⟨0, Nat.one_pos⟩ (inBlk i 0) (inBlk i 1) := by
    rw [eq_ix2 (n0 := 512) (n1 := 2048) (inBlk i)]
    exact reshapeEquiv_ix2_11ab _ _ _
  rw [hr]
  refine congrArg X (funext fun a => Fin.ext ?_)
  have hc : c.val < 4 := c.isLt
  rw [Layout.TilesN.idx_val]
  match a with
  | ⟨0, _⟩ =>
    exact (by decide : ∀ c : Dev nD, Layout.meshLin [2, 2] c.val [0] * 1 + 0 = c.val / 2) c
  | ⟨1, _⟩ =>
    exact (by decide : ∀ c : Dev nD, Layout.meshLin [2, 2] c.val [1] * 1 + 0 = c.val % 2) c
  | ⟨2, _⟩ =>
    show 0 * 4096 + (512 * ((i 0).val / 512) + 1 * ((i 0).val % 512)) = (i 0).val
    omega
  | ⟨3, _⟩ =>
    show 0 * 2048 + (0 + 1 * (i 1).val) = (i 1).val
    omega

/-- Two by two along either axis, the four devices' values add up to their sum. -/
theorem sum_devs (s : Bool) (d : Dev nD) (v : Dev nD → EReal) :
    v (pt s d) + v d + (v (pt s (pt (!s) d)) + v (pt (!s) d)) = ∑ c : Dev nD, v c := by
  have hu : (Finset.univ : Finset (Dev nD)) = {pt s d, d, pt s (pt (!s) d), pt (!s) d} := by revert s d; decide
  rw [hu, Finset.sum_insert (by revert s d; decide), Finset.sum_insert (by revert s d; decide), Finset.sum_insert (by revert s d; decide),
    Finset.sum_singleton, add_assoc]

/-- Given each device its slab of one whole array, the kernel's result is the sum of the slabs. -/
theorem outV_apply (X : Whole.Idx → EReal) (m : (ℓ : Loc nD τ sig) → Buf (Elt Ideal) ℓ)
    (h : ∀ c : Dev nD, m ((c : Thread nD τ).loc main_arg0) = Layout.blockN Slab Whole (Layout.meshBlock [2, 2] ![[0], [1], [], []] c) X)
    (i : S4096x2048.Idx) : outV m i = ∑ c : Dev nD, X (at' c i) := by
  have hb : bk (bkE.symm (blkOf i)).1 (bkE.symm (blkOf i)).2 = blkOf i := bkE.apply_symm_apply (blkOf i)
  unfold outV
  generalize (bkE.symm (blkOf i)).1 = s at hb ⊢
  generalize (bkE.symm (blkOf i)).2 = d at hb ⊢
  rw [← sum_devs s d]
  have hx (c : Dev nD) : xb m c (bk s d) (inBlk i) = X (at' c i) := by rw [hb]; exact xb_apply X m c (h c) i
  rw [← hx, ← hx, ← hx, ← hx]
  show xb m (pt s d) (bk s d) (inBlk i) + xb m d (bk s d) (inBlk i)
    + (xb m (pt s (pt (!s) d)) (bk s (pt (!s) (pt (!s) d))) (inBlk i) + xb m (pt (!s) d) (bk s (pt (!s) (pt (!s) d))) (inBlk i)) = _
  rw [pt_pt]

/-- The two results are the same array. -/
theorem outV_eq_ref (X : Whole.Idx → EReal) (m : (ℓ : Loc nD τ sig) → Buf (Elt Ideal) ℓ)
    (h : ∀ c : Dev nD, m ((c : Thread nD τ).loc main_arg0) = Layout.blockN Slab Whole (Layout.meshBlock [2, 2] ![[0], [1], [], []] c) X)
    (hr : Whole.ReducesTo [0, 1] S4096x2048) (hu : 0 < (⟨0, ![]⟩ : Shape).numel) :
    outV m = Host.reduceAdd (F := Ideal) (φ := .f32) X (constant (F := Ideal) ⟨0, ![]⟩ .f32 0x00000000#32) hr hu :=
  funext fun i => (outV_apply X m h i).trans (ref_apply X hr hu i).symm

end Cert.KernelIdeal.Sum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel runs, leaves its input as it was and every semaphore at zero. -/
theorem quiescent_kernel : Cert.quiescent_Kernel (hKernel := Cert.Kernel.Gen.facts) := fun m g _ =>
  (θ_run _ _ _).mono (fun _ h => ⟨fun c => (h.1 c).2, h.2⟩) (Cert.Kernel.Sum.run_main m g)

/-- So does its idealization. -/
theorem quiescent_kernelIdeal : Cert.quiescent_KernelIdeal (hKernelIdeal := Cert.KernelIdeal.Gen.facts) := fun m g _ =>
  (θ_run _ _ _).mono (fun _ h => ⟨fun c => (h.1 c).2, h.2⟩) (Cert.KernelIdeal.Sum.run_main m g)

/-- So does the reference, which has no semaphore. -/
theorem quiescent_referenceIdeal : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- In exact arithmetic every device's result is the sum over the mesh that the reference computes. -/
theorem algebraic_kernelIdeal : Cert.algebraic_KernelIdeal_ReferenceIdeal (hKernelIdeal := Cert.KernelIdeal.Gen.facts) (hReferenceIdeal := Cert.ReferenceIdeal.Gen.facts) := by
  intro m g m' g' _ hm
  refine ⟨Cert.KernelIdeal.Sum.outV m, (θ_run _ _ _).mono (fun _ h => h.1) (Cert.KernelIdeal.Sum.run_main m g), ?_⟩
  refine (θ_run _ _ _).mono (fun r h => ⟨(h 0).1.trans ?_, (h 0).2⟩) (Cert.ReferenceIdeal.Value.run m' g')
  exact (Cert.KernelIdeal.Sum.outV_eq_ref _ m hm _ _).symm

/-- All the claims. -/
theorem claim : Cert.Claim := ⟨Cert.Kernel.Gen.facts, Cert.KernelIdeal.Gen.facts, Cert.ReferenceIdeal.Gen.facts,
  quiescent_kernel, quiescent_kernelIdeal, quiescent_referenceIdeal, trivial, algebraic_kernelIdeal⟩

end Cert.Proof

end
